-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v201) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S2x4096x1024 : Shape := ⟨3, ![2, 4096, 1024]⟩
abbrev S2x4096 : Shape := ⟨2, ![2, 4096]⟩
abbrev S1024x1024 : Shape := ⟨2, ![1024, 1024]⟩
abbrev S1024 : Shape := ⟨1, ![1024]⟩
abbrev S16x60x3 : Shape := ⟨3, ![16, 60, 3]⟩
abbrev S_ : Shape := ⟨0, ![]⟩

class Facts : Prop where
  reducesTo_S2x4096_S_d0_1 : S2x4096.ReducesTo [0, 1] S_
  h_S_ : 0 < S_.numel
  bcast_S_S16x60x3 : S_.BroadcastsInDim S16x60x3 (![] : Fin 0 → Fin S16x60x3.rank)
  reducesTo_S16x60x3_S_d0_1_2 : S16x60x3.ReducesTo [0, 1, 2] S_

variable [Facts]

def fn {F : FTy → Type} [FloatOps F] (main_arg0 : FVec F S2x4096x1024 .f32) (main_arg1 : IVec S2x4096 1) (main_arg2 : FVec F S1024x1024 .f32) (main_arg3 : FVec F S1024x1024 .f32) (main_arg4 : FVec F S1024x1024 .f32) (main_arg5 : FVec F S1024x1024 .f32) (main_arg6 : FVec F S1024 .f32) (main_arg7 : FVec F S1024 .f32) (main_arg8 : FVec F S1024 .f32) (main_arg9 : IVec S16x60x3 32) : IVec S_ 1 :=
  let main_c : IVec S_ 1 := constantI S_ 1 1#1
  let main_v0 : IVec S_ 1 := (fun x v => Host.reduce IntOp.andi x v reducesTo_S2x4096_S_d0_1 h_S_) main_arg1 main_c
  let main_c_0 : IVec S_ 32 := constantI S_ 32 0#32
  let main_v1 : IVec S16x60x3 32 := broadcastInDim S16x60x3 ![] bcast_S_S16x60x3 main_c_0
  let main_v2 : IVec S16x60x3 1 := cmpi .sge main_arg9 main_v1
  let main_c_1 : IVec S_ 32 := constantI S_ 32 64#32
  let main_v3 : IVec S16x60x3 32 := broadcastInDim S16x60x3 ![] bcast_S_S16x60x3 main_c_1
  let main_v4 : IVec S16x60x3 1 := cmpi .slt main_arg9 main_v3
  let main_v5 : IVec S16x60x3 1 := andi main_v2 main_v4
  let main_c_2 : IVec S_ 1 := constantI S_ 1 1#1
  let main_v6 : IVec S_ 1 := (fun x v => Host.reduce IntOp.andi x v reducesTo_S16x60x3_S_d0_1_2 h_S_) main_v5 main_c_2
  let main_v7 : IVec S_ 1 := andi main_v0 main_v6
  main_v7
-- ==== Kernel.lean ====
abbrev S2x4096x1024 : Shape := ⟨3, ![2, 4096, 1024]⟩
abbrev S2x4096 : Shape := ⟨2, ![2, 4096]⟩
abbrev S1024x1024 : Shape := ⟨2, ![1024, 1024]⟩
abbrev S1024 : Shape := ⟨1, ![1024]⟩
abbrev S16x60x3 : Shape := ⟨3, ![16, 60, 3]⟩
abbrev S8192x1024 : Shape := ⟨2, ![8192, 1024]⟩
abbrev S1024x3072 : Shape := ⟨2, ![1024, 3072]⟩
abbrev S8192x3072 : Shape := ⟨2, ![8192, 3072]⟩
abbrev S512x1024 : Shape := ⟨2, ![512, 1024]⟩
abbrev S1024x512 : Shape := ⟨2, ![1024, 512]⟩
abbrev S512x512 : Shape := ⟨2, ![512, 512]⟩
abbrev S2x4096x3x16x64 : Shape := ⟨5, ![2, 4096, 3, 16, 64]⟩
abbrev S3x2x16x4096x64 : Shape := ⟨5, ![3, 2, 16, 4096, 64]⟩
abbrev S1x2x16x4096x64 : Shape := ⟨5, ![1, 2, 16, 4096, 64]⟩
abbrev S2x16x4096x64 : Shape := ⟨4, ![2, 16, 4096, 64]⟩
abbrev S1x1x4096x64 : Shape := ⟨4, ![1, 1, 4096, 64]⟩
abbrev S1x1x128x64 : Shape := ⟨4, ![1, 1, 128, 64]⟩
abbrev S128x64 : Shape := ⟨2, ![128, 64]⟩
abbrev S256x64 : Shape := ⟨2, ![256, 64]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S1x1x64x64 : Shape := ⟨4, ![1, 1, 64, 64]⟩
abbrev S64x64 : Shape := ⟨2, ![64, 64]⟩
abbrev S1x1x1 : Shape := ⟨3, ![1, 1, 1]⟩
abbrev S1x1x192x64 : Shape := ⟨4, ![1, 1, 192, 64]⟩
abbrev S192x64 : Shape := ⟨2, ![192, 64]⟩
abbrev S512x64 : Shape := ⟨2, ![512, 64]⟩
abbrev S64x512 : Shape := ⟨2, ![64, 512]⟩
abbrev S64 : Shape := ⟨1, ![64]⟩
abbrev S64x1 : Shape := ⟨2, ![64, 1]⟩
abbrev S2x4096x16x64 : Shape := ⟨4, ![2, 4096, 16, 64]⟩
abbrev S1x1024 : Shape := ⟨2, ![1, 1024]⟩
abbrev S512 : Shape := ⟨1, ![512]⟩
abbrev S512x1 : Shape := ⟨2, ![512, 1]⟩

abbrev nBuf : Space → Nat
  | .hbm => 31
  | .vmem => 24
  | .smem => 1
  | _ => 0

abbrev bufTy : (tb : Table) → Fin (tcTables nBuf tb) → BufTy
  | .hbm, ⟨0, _⟩ => ⟨S2x4096x1024, .f32⟩
  | .hbm, ⟨1, _⟩ => ⟨S2x4096, .i1⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S8192x1024, .f32⟩
  | .hbm, ⟨10, _⟩ => ⟨S8192x1024, .bf16⟩
  | .hbm, ⟨11, _⟩ => ⟨S1024x3072, .f32⟩
  | .hbm, ⟨12, _⟩ => ⟨S1024x3072, .bf16⟩
  | .hbm, ⟨13, _⟩ => ⟨S8192x3072, .bf16⟩
  | .hbm, ⟨14, _⟩ => ⟨S2x4096x3x16x64, .bf16⟩
  | .hbm, ⟨15, _⟩ => ⟨S3x2x16x4096x64, .bf16⟩
  | .hbm, ⟨16, _⟩ => ⟨S1x2x16x4096x64, .bf16⟩
  | .hbm, ⟨17, _⟩ => ⟨S2x16x4096x64, .bf16⟩
  | .hbm, ⟨18, _⟩ => ⟨S1x2x16x4096x64, .bf16⟩
  | .hbm, ⟨19, _⟩ => ⟨S2x16x4096x64, .bf16⟩
  | .hbm, ⟨20, _⟩ => ⟨S1x2x16x4096x64, .bf16⟩
  | .hbm, ⟨21, _⟩ => ⟨S2x16x4096x64, .bf16⟩
  | .hbm, ⟨22, _⟩ => ⟨S2x16x4096x64, .bf16⟩
  | .hbm, ⟨23, _⟩ => ⟨S2x4096x16x64, .bf16⟩
  | .hbm, ⟨24, _⟩ => ⟨S8192x1024, .bf16⟩
  | .hbm, ⟨25, _⟩ => ⟨S1024x1024, .bf16⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S2x4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S1x1x4096x64, .bf16⟩
  | .local _ .vmem, ⟨7, _⟩ => ⟨S1x1x4096x64, .bf16⟩
  | .local _ .vmem, ⟨8, _⟩ => ⟨S1x1x4096x64, .bf16⟩
  | .local _ .vmem, ⟨9, _⟩ => ⟨S1x1x4096x64, .bf16⟩
  | .local _ .vmem, ⟨10, _⟩ => ⟨S1x1x4096x64, .bf16⟩
  | .local _ .vmem, ⟨11, _⟩ => ⟨S1x1x4096x64, .bf16⟩
  | .local _ .vmem, ⟨12, _⟩ => ⟨S1x1x4096x64, .bf16⟩
  | .local _ .vmem, ⟨13, _⟩ => ⟨S1x1x4096x64, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | .local _ .smem, ⟨0, _⟩ => ⟨S16x60x3, .i32⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_arg9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

abbrev pre1 : Pipeline.Prefetch sig := ⟨1, ![main_arg9.idx], fun | 0 => main_arg9.names | ⟨_ + 1, h⟩ => absurd h (Nat.not_lt.2 (Nat.le_add_left _ _)), fun | 0 => rfl | ⟨_ + 1, h⟩ => absurd h (Nat.not_lt.2 (Nat.le_add_left _ _))⟩

@[reducible] def k1_t1_loop : Scf.Loop 32 :=
  let c0_i32 : BitVec 32 := 0#32
  let c60_i32 : BitVec 32 := 60#32
  let v33 : BitVec 32 := Scalar.addi c0_i32 c60_i32
  let c1_i32 : BitVec 32 := 1#32
  ⟨c0_i32, v33, c1_i32⟩
def k1_off1 (k1_t1 : Fin k1_t1_loop.trips) : Fin 4 → Nat :=
  let c0_27 : Index := 0#32
  let c0_28 : Index := 0#32
  let c0_i32 : BitVec 32 := 0#32
  let c1_i32 : BitVec 32 := 1#32
  let arg7 : BitVec 32 := Scf.iv c0_i32 c1_i32 k1_t1
  let c2_i32 : BitVec 32 := 2#32
  let v34 : BitVec 32 := Scalar.addi arg7 c2_i32
  let c64_i32 : BitVec 32 := 64#32
  let v35 : BitVec 32 := Scalar.muli v34 c64_i32
  let v36 : Index := Scalar.indexCast v35
  let c0_29 : Index := 0#32
  ![0, 0, v36.toNat, 0]
def k1_off2 (i : grid1.Coords) (k1_t1 : Fin k1_t1_loop.trips) : Fin 3 → Nat :=
  let arg1 : BitVec 32 := BitVec.ofNat 32 (i 1).val
  let v39 : Index := Scalar.indexCast arg1
  let c0_i32 : BitVec 32 := 0#32
  let c1_i32 : BitVec 32 := 1#32
  let arg7 : BitVec 32 := Scf.iv c0_i32 c1_i32 k1_t1
  let v40 : Index := Scalar.indexCast arg7
  let c0_30 : Index := 0#32
  ![v39.toNat, v40.toNat, 0]
def k1_off3 (i : grid1.Coords) (k1_t1 : Fin k1_t1_loop.trips) : Fin 3 → Nat :=
  let arg1 : BitVec 32 := BitVec.ofNat 32 (i 1).val
  let v42 : Index := Scalar.indexCast arg1
  let c0_i32 : BitVec 32 := 0#32
  let c1_i32 : BitVec 32 := 1#32
  let arg7 : BitVec 32 := Scf.iv c0_i32 c1_i32 k1_t1
  let v43 : Index := Scalar.indexCast arg7
  let c1 : Index := 1#32
  ![v42.toNat, v43.toNat, 1]
def k1_off4 (i : grid1.Coords) (k1_t1 : Fin k1_t1_loop.trips) : Fin 3 → Nat :=
  let arg1 : BitVec 32 := BitVec.ofNat 32 (i 1).val
  let v45 : Index := Scalar.indexCast arg1
  let c0_i32 : BitVec 32 := 0#32
  let c1_i32 : BitVec 32 := 1#32
  let arg7 : BitVec 32 := Scf.iv c0_i32 c1_i32 k1_t1
  let v46 : Index := Scalar.indexCast arg7
  let c2 : Index := 2#32
  ![v45.toNat, v46.toNat, 2]
def k1_off5 (k1_t1 : Fin k1_t1_loop.trips) : Fin 4 → Nat :=
  let c0_33 : Index := 0#32
  let c0_34 : Index := 0#32
  let c0_i32 : BitVec 32 := 0#32
  let c1_i32 : BitVec 32 := 1#32
  let arg7 : BitVec 32 := Scf.iv c0_i32 c1_i32 k1_t1
  let c1_i32_31 : BitVec 32 := 1#32
  let v48 : BitVec 32 := Scalar.addi arg7 c1_i32_31
  let c64_i32_32 : BitVec 32 := 64#32
  let v49 : BitVec 32 := Scalar.muli v48 c64_i32_32
  let v50 : Index := Scalar.indexCast v49
  let c0_35 : Index := 0#32
  ![0, 0, v50.toNat, 0]
def k1_off6 (v41 : BitVec 32) : Fin 4 → Nat :=
  let c0_44 : Index := 0#32
  let c0_45 : Index := 0#32
  let c64_i32_43 : BitVec 32 := 64#32
  let v57 : BitVec 32 := Scalar.muli v41 c64_i32_43
  let v58 : Index := Scalar.indexCast v57
  let c0_46 : Index := 0#32
  ![0, 0, v58.toNat, 0]

def k1_off7 (v44 : BitVec 32) : Fin 4 → Nat :=
  let c0_48 : Index := 0#32
  let c0_49 : Index := 0#32
  let c64_i32_47 : BitVec 32 := 64#32
  let v61 : BitVec 32 := Scalar.muli v44 c64_i32_47
  let v62 : Index := Scalar.indexCast v61
  let c0_50 : Index := 0#32
  ![0, 0, v62.toNat, 0]

def k1_off8 (v47 : BitVec 32) : Fin 4 → Nat :=
  let c0_52 : Index := 0#32
  let c0_53 : Index := 0#32
  let c64_i32_51 : BitVec 32 := 64#32
  let v65 : BitVec 32 := Scalar.muli v47 c64_i32_51
  let v66 : Index := Scalar.indexCast v65
  let c0_54 : Index := 0#32
  ![0, 0, v66.toNat, 0]

def k1_chk3 (v47 : BitVec 32) : Prop :=
  (∀ a, (k1_off8 v47) a + S1x1x64x64.size a ≤ S1x1x4096x64.size a)
theorem k1_off8_inb : ∀ (v47 : BitVec 32) (k1_hw3 : k1_chk3 v47), ∀ a, (k1_off8 v47) a + S1x1x64x64.size a ≤ S1x1x4096x64.size a := fun v47 k1_hw3 => k1_hw3

def k1_off9 (k1_t1 : Fin k1_t1_loop.trips) : Fin 4 → Nat :=
  let c0_61 : Index := 0#32
  let c0_62 : Index := 0#32
  let c0_i32 : BitVec 32 := 0#32
  let c1_i32 : BitVec 32 := 1#32
  let arg7 : BitVec 32 := Scf.iv c0_i32 c1_i32 k1_t1
  let c1_i32_59 : BitVec 32 := 1#32
  let v83 : BitVec 32 := Scalar.addi arg7 c1_i32_59
  let c64_i32_60 : BitVec 32 := 64#32
  let v84 : BitVec 32 := Scalar.muli v83 c64_i32_60
  let v85 : Index := Scalar.indexCast v84
  let c0_63 : Index := 0#32
  ![0, 0, v85.toNat, 0]
def k1_off10 (v41 : BitVec 32) : Fin 4 → Nat :=
  let c0_73 : Index := 0#32
  let c0_74 : Index := 0#32
  let c64_i32_72 : BitVec 32 := 64#32
  let v92 : BitVec 32 := Scalar.muli v41 c64_i32_72
  let v93 : Index := Scalar.indexCast v92
  let c0_75 : Index := 0#32
  ![0, 0, v93.toNat, 0]

def k1_chk1 (v41 : BitVec 32) : Prop :=
  (∀ a, (k1_off6 v41) a + S1x1x64x64.size a ≤ S1x1x4096x64.size a) ∧
  (∀ a, (k1_off10 v41) a + S1x1x64x64.size a ≤ S1x1x4096x64.size a)
theorem k1_off6_inb : ∀ (v41 : BitVec 32) (k1_hw1 : k1_chk1 v41), ∀ a, (k1_off6 v41) a + S1x1x64x64.size a ≤ S1x1x4096x64.size a := fun v41 k1_hw1 => k1_hw1.1
theorem k1_off10_inb : ∀ (v41 : BitVec 32) (k1_hw1 : k1_chk1 v41), ∀ a, (k1_off10 v41) a + S1x1x64x64.size a ≤ S1x1x4096x64.size a := fun v41 k1_hw1 => k1_hw1.2

def k1_off11 (v44 : BitVec 32) : Fin 4 → Nat :=
  let c0_77 : Index := 0#32
  let c0_78 : Index := 0#32
  let c64_i32_76 : BitVec 32 := 64#32
  let v96 : BitVec 32 := Scalar.muli v44 c64_i32_76
  let v97 : Index := Scalar.indexCast v96
  let c0_79 : Index := 0#32
  ![0, 0, v97.toNat, 0]

def k1_chk2 (v44 : BitVec 32) : Prop :=
  (∀ a, (k1_off7 v44) a + S1x1x64x64.size a ≤ S1x1x4096x64.size a) ∧
  (∀ a, (k1_off11 v44) a + S1x1x64x64.size a ≤ S1x1x4096x64.size a)
theorem k1_off7_inb : ∀ (v44 : BitVec 32) (k1_hw2 : k1_chk2 v44), ∀ a, (k1_off7 v44) a + S1x1x64x64.size a ≤ S1x1x4096x64.size a := fun v44 k1_hw2 => k1_hw2.1
theorem k1_off11_inb : ∀ (v44 : BitVec 32) (k1_hw2 : k1_chk2 v44), ∀ a, (k1_off11 v44) a + S1x1x64x64.size a ≤ S1x1x4096x64.size a := fun v44 k1_hw2 => k1_hw2.2

def k1_off12 (k1_t1 : Fin k1_t1_loop.trips) : Fin 4 → Nat :=
  let c0_87 : Index := 0#32
  let c0_88 : Index := 0#32
  let c0_i32 : BitVec 32 := 0#32
  let c1_i32 : BitVec 32 := 1#32
  let arg7 : BitVec 32 := Scf.iv c0_i32 c1_i32 k1_t1
  let c2_i32_85 : BitVec 32 := 2#32
  let v107 : BitVec 32 := Scalar.addi arg7 c2_i32_85
  let c64_i32_86 : BitVec 32 := 64#32
  let v108 : BitVec 32 := Scalar.muli v107 c64_i32_86
  let v109 : Index := Scalar.indexCast v108
  let c0_89 : Index := 0#32
  ![0, 0, v109.toNat, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x1x4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x4096x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1024 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]
-- ==== ReferenceIdeal.lean ====
abbrev S2x4096x1024 : Shape := ⟨3, ![2, 4096, 1024]⟩
abbrev S2x4096 : Shape := ⟨2, ![2, 4096]⟩
abbrev S1024x1024 : Shape := ⟨2, ![1024, 1024]⟩
abbrev S1024 : Shape := ⟨1, ![1024]⟩
abbrev S16x60x3 : Shape := ⟨3, ![16, 60, 3]⟩
abbrev S4 : Shape := ⟨1, ![4]⟩
abbrev S2x64x64 : Shape := ⟨3, ![2, 64, 64]⟩
abbrev S2x60x64 : Shape := ⟨3, ![2, 60, 64]⟩
abbrev S2x60x192 : Shape := ⟨3, ![2, 60, 192]⟩
abbrev S2x60x64x1 : Shape := ⟨4, ![2, 60, 64, 1]⟩
abbrev S2x60x1x192 : Shape := ⟨4, ![2, 60, 1, 192]⟩
abbrev S2x60x64x192 : Shape := ⟨4, ![2, 60, 64, 192]⟩
abbrev S2x1x60x64x192 : Shape := ⟨5, ![2, 1, 60, 64, 192]⟩
abbrev S2x1x4096x1 : Shape := ⟨4, ![2, 1, 4096, 1]⟩
abbrev S2x1x1x4096 : Shape := ⟨4, ![2, 1, 1, 4096]⟩
abbrev S2x4096x16x64 : Shape := ⟨4, ![2, 4096, 16, 64]⟩
abbrev S2x16x4096x64 : Shape := ⟨4, ![2, 16, 4096, 64]⟩
abbrev S2x16x64x64x64 : Shape := ⟨5, ![2, 16, 64, 64, 64]⟩
abbrev S_ : Shape := ⟨0, ![]⟩
abbrev S4x1 : Shape := ⟨2, ![4, 1]⟩
abbrev S2x16x4x64x64 : Shape := ⟨5, ![2, 16, 4, 64, 64]⟩
abbrev S2x16x4x64x4096 : Shape := ⟨5, ![2, 16, 4, 64, 4096]⟩
abbrev S2x1x1x1x4096 : Shape := ⟨5, ![2, 1, 1, 1, 4096]⟩
abbrev S2x16x4x64 : Shape := ⟨4, ![2, 16, 4, 64]⟩
abbrev S2x16x4x64x1 : Shape := ⟨5, ![2, 16, 4, 64, 1]⟩
abbrev S2x16x60x64x64 : Shape := ⟨5, ![2, 16, 60, 64, 64]⟩
abbrev S2x16x60x192x64 : Shape := ⟨5, ![2, 16, 60, 192, 64]⟩
abbrev S16 : Shape := ⟨1, ![16]⟩
abbrev S16x1x1 : Shape := ⟨3, ![16, 1, 1]⟩
abbrev S16x60x3x1 : Shape := ⟨4, ![16, 60, 3, 1]⟩
abbrev S16x60x3x2 : Shape := ⟨4, ![16, 60, 3, 2]⟩
abbrev S2x16x60x3x64x64 : Shape := ⟨6, ![2, 16, 60, 3, 64, 64]⟩
abbrev S2x16x60x3x64 : Shape := ⟨5, ![2, 16, 60, 3, 64]⟩
abbrev S2x16x60x1x192 : Shape := ⟨5, ![2, 16, 60, 1, 192]⟩
abbrev S2x16x60x64x192 : Shape := ⟨5, ![2, 16, 60, 64, 192]⟩
abbrev S2x16x1x64x64 : Shape := ⟨5, ![2, 16, 1, 64, 64]⟩
abbrev S2x16x64x64 : Shape := ⟨4, ![2, 16, 64, 64]⟩
abbrev S2x1x1x64 : Shape := ⟨4, ![2, 1, 1, 64]⟩
abbrev S2x1x1x1x64 : Shape := ⟨5, ![2, 1, 1, 1, 64]⟩
abbrev S2x16x60x64x512 : Shape := ⟨5, ![2, 16, 60, 64, 512]⟩
abbrev S2x16x60x64 : Shape := ⟨4, ![2, 16, 60, 64]⟩
abbrev S2x16x60x64x1 : Shape := ⟨5, ![2, 16, 60, 64, 1]⟩
abbrev S2x16x60x512x64 : Shape := ⟨5, ![2, 16, 60, 512, 64]⟩
abbrev S1x1x1024 : Shape := ⟨3, ![1, 1, 1024]⟩
abbrev S2x4096x1 : Shape := ⟨3, ![2, 4096, 1]⟩

abbrev nBuf : Space → Nat
  | .hbm => 272
  | .vmem => 0
  | .smem => 0
  | _ => 0

abbrev hbmTy0_0 (i : Nat) : BufTy := match i % 128 with
  | 0 => ⟨S2x4096x1024, .f32⟩
  | 1 => ⟨S2x4096, .i1⟩
  | 2 => ⟨S1024x1024, .f32⟩
  | 3 => ⟨S1024x1024, .f32⟩
  | 4 => ⟨S1024x1024, .f32⟩
  | 5 => ⟨S1024x1024, .f32⟩
  | 6 => ⟨S1024, .f32⟩
  | 7 => ⟨S1024, .f32⟩
  | 8 => ⟨S1024, .f32⟩
  | 9 => ⟨S16x60x3, .i32⟩
  | 10 => ⟨S4, .i32⟩
  | 11 => ⟨S2x4096, .f32⟩
  | 12 => ⟨S2x64x64, .f32⟩
  | 13 => ⟨S2x60x64, .f32⟩
  | 14 => ⟨S2x60x64, .f32⟩
  | 15 => ⟨S2x60x64, .f32⟩
  | 16 => ⟨S2x60x192, .f32⟩
  | 17 => ⟨S2x60x64, .f32⟩
  | 18 => ⟨S2x60x64x1, .f32⟩
  | 19 => ⟨S2x60x1x192, .f32⟩
  | 20 => ⟨S2x60x64x192, .f32⟩
  | 21 => ⟨S2x60x64x192, .f32⟩
  | 22 => ⟨S2x60x64x192, .f32⟩
  | 23 => ⟨S2x1x60x64x192, .f32⟩
  | 24 => ⟨S2x1x4096x1, .f32⟩
  | 25 => ⟨S2x1x1x4096, .f32⟩
  | 26 => ⟨S2x4096x1024, .f32⟩
  | 27 => ⟨S2x4096x16x64, .f32⟩
  | 28 => ⟨S2x16x4096x64, .f32⟩
  | 29 => ⟨S2x4096x1024, .f32⟩
  | 30 => ⟨S2x4096x16x64, .f32⟩
  | 31 => ⟨S2x16x4096x64, .f32⟩
  | 32 => ⟨S2x4096x1024, .f32⟩
  | 33 => ⟨S2x4096x16x64, .f32⟩
  | 34 => ⟨S2x16x4096x64, .f32⟩
  | 35 => ⟨S2x16x64x64x64, .f32⟩
  | 36 => ⟨S2x16x64x64x64, .f32⟩
  | 37 => ⟨S2x16x64x64x64, .f32⟩
  | 38 => ⟨S_, .i32⟩
  | 39 => ⟨S4, .i32⟩
  | 40 => ⟨S4, .i1⟩
  | 41 => ⟨S_, .i32⟩
  | 42 => ⟨S4, .i32⟩
  | 43 => ⟨S4, .i32⟩
  | 44 => ⟨S4, .i32⟩
  | 45 => ⟨S4x1, .i32⟩
  | 46 => ⟨S2x16x4x64x64, .f32⟩
  | 47 => ⟨S2x16x4x64x4096, .f32⟩
  | 48 => ⟨S_, .f32⟩
  | 49 => ⟨S2x16x4x64x4096, .f32⟩
  | 50 => ⟨S2x16x4x64x4096, .f32⟩
  | 51 => ⟨S2x1x1x1x4096, .f32⟩
  | 52 => ⟨S_, .f32⟩
  | 53 => ⟨S2x1x1x1x4096, .f32⟩
  | 54 => ⟨S2x1x1x1x4096, .f32⟩
  | 55 => ⟨S_, .f32⟩
  | 56 => ⟨S2x1x1x1x4096, .f32⟩
  | 57 => ⟨S2x1x1x1x4096, .f32⟩
  | 58 => ⟨S2x16x4x64x4096, .f32⟩
  | 59 => ⟨S2x16x4x64x4096, .f32⟩
  | 60 => ⟨S_, .f32⟩
  | 61 => ⟨S2x16x4x64, .f32⟩
  | 62 => ⟨S_, .f32⟩
  | 63 => ⟨S2x16x4x64, .f32⟩
  | 64 => ⟨S2x16x4x64, .f32⟩
  | 65 => ⟨S2x16x4x64x1, .f32⟩
  | 66 => ⟨S2x16x4x64x4096, .f32⟩
  | 67 => ⟨S2x16x4x64x4096, .f32⟩
  | 68 => ⟨S2x16x4x64x4096, .f32⟩
  | 69 => ⟨S_, .f32⟩
  | 70 => ⟨S2x16x4x64, .f32⟩
  | 71 => ⟨S2x16x4x64x1, .f32⟩
  | 72 => ⟨S2x16x4x64x4096, .f32⟩
  | 73 => ⟨S2x16x4x64x4096, .f32⟩
  | 74 => ⟨S2x16x4x64x64, .f32⟩
  | 75 => ⟨S2x16x60x64x64, .f32⟩
  | 76 => ⟨S2x16x60x64x64, .f32⟩
  | 77 => ⟨S2x16x60x64x64, .f32⟩
  | 78 => ⟨S2x16x60x64x64, .f32⟩
  | 79 => ⟨S2x16x60x192x64, .f32⟩
  | 80 => ⟨S2x16x60x64x64, .f32⟩
  | 81 => ⟨S2x16x60x64x64, .f32⟩
  | 82 => ⟨S2x16x60x64x64, .f32⟩
  | 83 => ⟨S2x16x60x192x64, .f32⟩
  | 84 => ⟨S16, .i32⟩
  | 85 => ⟨S16x1x1, .i32⟩
  | 86 => ⟨S_, .i32⟩
  | 87 => ⟨S16x1x1, .i32⟩
  | 88 => ⟨S16x1x1, .i1⟩
  | 89 => ⟨S_, .i32⟩
  | 90 => ⟨S16x1x1, .i32⟩
  | 91 => ⟨S16x1x1, .i32⟩
  | 92 => ⟨S16x1x1, .i32⟩
  | 93 => ⟨S_, .i32⟩
  | 94 => ⟨S16x60x3, .i32⟩
  | 95 => ⟨S16x60x3, .i1⟩
  | 96 => ⟨S_, .i32⟩
  | 97 => ⟨S16x60x3, .i32⟩
  | 98 => ⟨S16x60x3, .i32⟩
  | 99 => ⟨S16x60x3, .i32⟩
  | 100 => ⟨S16x60x3, .i32⟩
  | 101 => ⟨S16x60x3x1, .i32⟩
  | 102 => ⟨S16x60x3x1, .i32⟩
  | 103 => ⟨S16x60x3x2, .i32⟩
  | 104 => ⟨S2x16x60x3x64x64, .f32⟩
  | 105 => ⟨S2x16x60x192x64, .f32⟩
  | 106 => ⟨S_, .i32⟩
  | 107 => ⟨S16x1x1, .i32⟩
  | 108 => ⟨S16x1x1, .i1⟩
  | 109 => ⟨S_, .i32⟩
  | 110 => ⟨S16x1x1, .i32⟩
  | 111 => ⟨S16x1x1, .i32⟩
  | 112 => ⟨S16x1x1, .i32⟩
  | 113 => ⟨S_, .i32⟩
  | 114 => ⟨S16x60x3, .i32⟩
  | 115 => ⟨S16x60x3, .i1⟩
  | 116 => ⟨S_, .i32⟩
  | 117 => ⟨S16x60x3, .i32⟩
  | 118 => ⟨S16x60x3, .i32⟩
  | 119 => ⟨S16x60x3, .i32⟩
  | 120 => ⟨S16x60x3, .i32⟩
  | 121 => ⟨S16x60x3x1, .i32⟩
  | 122 => ⟨S16x60x3x1, .i32⟩
  | 123 => ⟨S16x60x3x2, .i32⟩
  | 124 => ⟨S2x16x60x3x64x64, .f32⟩
  | 125 => ⟨S2x16x60x192x64, .f32⟩
  | 126 => ⟨S_, .i32⟩
  | 127 => ⟨S16x60x3, .i32⟩
  | _ => ⟨S2x4096x1024, .f32⟩

abbrev hbmTy0_1 (i : Nat) : BufTy := match i % 128 with
  | 0 => ⟨S16x60x3, .i1⟩
  | 1 => ⟨S_, .i32⟩
  | 2 => ⟨S16x60x3, .i32⟩
  | 3 => ⟨S16x60x3, .i32⟩
  | 4 => ⟨S16x60x3, .i32⟩
  | 5 => ⟨S16x60x3x1, .i32⟩
  | 6 => ⟨S2x16x60x3x64, .f32⟩
  | 7 => ⟨S2x16x60x1x192, .f32⟩
  | 8 => ⟨S2x16x60x64x192, .f32⟩
  | 9 => ⟨S_, .f32⟩
  | 10 => ⟨S2x16x60x64x192, .f32⟩
  | 11 => ⟨S2x16x60x64x192, .f32⟩
  | 12 => ⟨S_, .f32⟩
  | 13 => ⟨S2x1x60x64x192, .f32⟩
  | 14 => ⟨S2x1x60x64x192, .f32⟩
  | 15 => ⟨S_, .f32⟩
  | 16 => ⟨S2x1x60x64x192, .f32⟩
  | 17 => ⟨S2x1x60x64x192, .f32⟩
  | 18 => ⟨S2x16x60x64x192, .f32⟩
  | 19 => ⟨S2x16x60x64x192, .f32⟩
  | 20 => ⟨S2x16x1x64x64, .f32⟩
  | 21 => ⟨S2x16x64x64, .f32⟩
  | 22 => ⟨S2x16x60x64x64, .f32⟩
  | 23 => ⟨S_, .f32⟩
  | 24 => ⟨S2x16x60x64x64, .f32⟩
  | 25 => ⟨S2x16x60x64x64, .f32⟩
  | 26 => ⟨S2x1x1x64, .f32⟩
  | 27 => ⟨S_, .f32⟩
  | 28 => ⟨S2x1x1x64, .f32⟩
  | 29 => ⟨S2x1x1x64, .f32⟩
  | 30 => ⟨S2x1x1x1x64, .f32⟩
  | 31 => ⟨S_, .f32⟩
  | 32 => ⟨S2x1x1x1x64, .f32⟩
  | 33 => ⟨S2x1x1x1x64, .f32⟩
  | 34 => ⟨S2x16x60x64x64, .f32⟩
  | 35 => ⟨S2x16x60x64x64, .f32⟩
  | 36 => ⟨S2x16x1x64x64, .f32⟩
  | 37 => ⟨S2x16x64x64, .f32⟩
  | 38 => ⟨S2x16x60x64x64, .f32⟩
  | 39 => ⟨S_, .f32⟩
  | 40 => ⟨S2x16x60x64x64, .f32⟩
  | 41 => ⟨S2x16x60x64x64, .f32⟩
  | 42 => ⟨S2x1x1x64, .f32⟩
  | 43 => ⟨S_, .f32⟩
  | 44 => ⟨S2x1x1x64, .f32⟩
  | 45 => ⟨S2x1x1x64, .f32⟩
  | 46 => ⟨S2x1x1x1x64, .f32⟩
  | 47 => ⟨S_, .f32⟩
  | 48 => ⟨S2x1x1x1x64, .f32⟩
  | 49 => ⟨S2x1x1x1x64, .f32⟩
  | 50 => ⟨S2x16x60x64x64, .f32⟩
  | 51 => ⟨S2x16x60x64x64, .f32⟩
  | 52 => ⟨S2x16x60x64x192, .f32⟩
  | 53 => ⟨S_, .f32⟩
  | 54 => ⟨S2x16x60x64x192, .f32⟩
  | 55 => ⟨S2x16x60x64x192, .f32⟩
  | 56 => ⟨S_, .f32⟩
  | 57 => ⟨S2x16x60x1x192, .f32⟩
  | 58 => ⟨S2x16x60x1x192, .f32⟩
  | 59 => ⟨S_, .f32⟩
  | 60 => ⟨S2x16x60x1x192, .f32⟩
  | 61 => ⟨S2x16x60x1x192, .f32⟩
  | 62 => ⟨S2x16x60x64x192, .f32⟩
  | 63 => ⟨S2x16x60x64x192, .f32⟩
  | 64 => ⟨S2x16x60x64x512, .f32⟩
  | 65 => ⟨S_, .f32⟩
  | 66 => ⟨S2x16x60x64, .f32⟩
  | 67 => ⟨S_, .f32⟩
  | 68 => ⟨S2x16x60x64, .f32⟩
  | 69 => ⟨S2x16x60x64, .f32⟩
  | 70 => ⟨S2x16x60x64x1, .f32⟩
  | 71 => ⟨S2x16x60x64x512, .f32⟩
  | 72 => ⟨S2x16x60x64x512, .f32⟩
  | 73 => ⟨S2x16x60x64x512, .f32⟩
  | 74 => ⟨S_, .f32⟩
  | 75 => ⟨S2x16x60x64, .f32⟩
  | 76 => ⟨S2x16x60x64x1, .f32⟩
  | 77 => ⟨S2x16x60x64x512, .f32⟩
  | 78 => ⟨S2x16x60x64x512, .f32⟩
  | 79 => ⟨S2x16x1x64x64, .f32⟩
  | 80 => ⟨S2x16x60x64x64, .f32⟩
  | 81 => ⟨S2x16x1x64x64, .f32⟩
  | 82 => ⟨S2x16x60x64x64, .f32⟩
  | 83 => ⟨S2x16x60x512x64, .f32⟩
  | 84 => ⟨S2x16x60x64x64, .f32⟩
  | 85 => ⟨S2x16x1x64x64, .f32⟩
  | 86 => ⟨S2x16x1x64x64, .f32⟩
  | 87 => ⟨S2x16x1x64x64, .f32⟩
  | 88 => ⟨S2x16x1x64x64, .f32⟩
  | 89 => ⟨S2x16x64x64x64, .f32⟩
  | 90 => ⟨S2x16x4096x64, .f32⟩
  | 91 => ⟨S2x16x4096x64, .f32⟩
  | 92 => ⟨S2x16x4096x64, .f32⟩
  | 93 => ⟨S2x4096x16x64, .f32⟩
  | 94 => ⟨S2x4096x1024, .f32⟩
  | 95 => ⟨S2x4096x1024, .f32⟩
  | 96 => ⟨S1x1x1024, .f32⟩
  | 97 => ⟨S2x4096x1024, .f32⟩
  | 98 => ⟨S2x4096x1024, .f32⟩
  | 99 => ⟨S2x4096x1024, .f32⟩
  | 100 => ⟨S_, .f32⟩
  | 101 => ⟨S2x4096, .f32⟩
  | 102 => ⟨S2x4096x1, .f32⟩
  | 103 => ⟨S_, .f32⟩
  | 104 => ⟨S2x4096x1, .f32⟩
  | 105 => ⟨S2x4096x1, .f32⟩
  | 106 => ⟨S_, .i32⟩
  | 107 => ⟨S_, .f32⟩
  | 108 => ⟨S2x4096, .f32⟩
  | 109 => ⟨S2x4096x1, .f32⟩
  | 110 => ⟨S_, .f32⟩
  | 111 => ⟨S2x4096x1, .f32⟩
  | 112 => ⟨S2x4096x1, .f32⟩
  | 113 => ⟨S2x4096x1024, .f32⟩
  | 114 => ⟨S2x4096x1024, .f32⟩
  | 115 => ⟨S2x4096x1024, .f32⟩
  | 116 => ⟨S_, .f32⟩
  | 117 => ⟨S_, .f32⟩
  | 118 => ⟨S_, .f32⟩
  | 119 => ⟨S_, .f32⟩
  | 120 => ⟨S2x4096, .f32⟩
  | 121 => ⟨S2x4096x1, .f32⟩
  | 122 => ⟨S2x4096x1, .f32⟩
  | 123 => ⟨S2x4096x1, .f32⟩
  | 124 => ⟨S_, .f32⟩
  | 125 => ⟨S_, .i1⟩
  | 126 => ⟨S_, .f32⟩
  | 127 => ⟨S_, .f32⟩
  | _ => ⟨S2x4096x1024, .f32⟩

abbrev hbmTy0_2 (i : Nat) : BufTy := match i % 128 with
  | 0 => ⟨S2x4096x1, .f32⟩
  | 1 => ⟨S2x4096x1, .f32⟩
  | 2 => ⟨S2x4096x1024, .f32⟩
  | 3 => ⟨S2x4096x1024, .f32⟩
  | 4 => ⟨S1x1x1024, .f32⟩
  | 5 => ⟨S2x4096x1024, .f32⟩
  | 6 => ⟨S2x4096x1024, .f32⟩
  | 7 => ⟨S_, .f32⟩
  | 8 => ⟨S2x4096x1, .f32⟩
  | 9 => ⟨S2x4096x1, .f32⟩
  | 10 => ⟨S2x4096x1, .f32⟩
  | 11 => ⟨S2x4096x1024, .f32⟩
  | 12 => ⟨S2x4096x1024, .f32⟩
  | 13 => ⟨S1x1x1024, .f32⟩
  | 14 => ⟨S2x4096x1024, .f32⟩
  | 15 => ⟨S2x4096x1024, .f32⟩
  | _ => ⟨S2x4096x1024, .f32⟩

abbrev hbmTy (i : Nat) : BufTy := match i / 128 with
  | 0 => hbmTy0_0 i
  | 1 => hbmTy0_1 i
  | 2 => hbmTy0_2 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_0 : Ref sig .tc := ⟨.hbm, 38, rfl⟩
abbrev main_v27 : Ref sig .tc := ⟨.hbm, 39, rfl⟩
abbrev main_v28 : Ref sig .tc := ⟨.hbm, 40, rfl⟩
abbrev main_c_1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_2 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_4 : Ref sig .tc := ⟨.hbm, 60, rfl⟩
abbrev main_v44 : Ref sig .tc := ⟨.hbm, 61, rfl⟩
abbrev main_cst_5 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_6 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_c_7 : Ref sig .tc := ⟨.hbm, 86, rfl⟩
abbrev main_v67 : Ref sig .tc := ⟨.hbm, 87, rfl⟩
abbrev main_v68 : Ref sig .tc := ⟨.hbm, 88, rfl⟩
abbrev main_c_8 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_9 : Ref sig .tc := ⟨.hbm, 93, rfl⟩
abbrev main_v72 : Ref sig .tc := ⟨.hbm, 94, rfl⟩
abbrev main_v73 : Ref sig .tc := ⟨.hbm, 95, rfl⟩
abbrev main_c_10 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_c_11 : Ref sig .tc := ⟨.hbm, 106, rfl⟩
abbrev main_v83 : Ref sig .tc := ⟨.hbm, 107, rfl⟩
abbrev main_v84 : Ref sig .tc := ⟨.hbm, 108, rfl⟩
abbrev main_c_12 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_c_13 : Ref sig .tc := ⟨.hbm, 113, rfl⟩
abbrev main_v88 : Ref sig .tc := ⟨.hbm, 114, rfl⟩
abbrev main_v89 : Ref sig .tc := ⟨.hbm, 115, rfl⟩
abbrev main_c_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_c_15 : Ref sig .tc := ⟨.hbm, 126, rfl⟩
abbrev main_v99 : Ref sig .tc := ⟨.hbm, 127, rfl⟩
abbrev main_v100 : Ref sig .tc := ⟨.hbm, 128, rfl⟩
abbrev main_c_16 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_17 : Ref sig .tc := ⟨.hbm, 137, rfl⟩
abbrev main_v108 : Ref sig .tc := ⟨.hbm, 138, rfl⟩
abbrev main_v109 : Ref sig .tc := ⟨.hbm, 139, rfl⟩
abbrev main_cst_18 : Ref sig .tc := ⟨.hbm, 140, rfl⟩
abbrev main_v110 : Ref sig .tc := ⟨.hbm, 141, rfl⟩
abbrev main_v111 : Ref sig .tc := ⟨.hbm, 142, rfl⟩
abbrev main_cst_19 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_20 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_cst_21 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_cst_22 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_cst_23 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_cst_24 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_cst_25 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_cst_26 : Ref sig .tc := ⟨.hbm, 181, rfl⟩
abbrev main_v143 : Ref sig .tc := ⟨.hbm, 182, rfl⟩
abbrev main_v144 : Ref sig .tc := ⟨.hbm, 183, rfl⟩
abbrev main_cst_27 : Ref sig .tc := ⟨.hbm, 184, rfl⟩
abbrev main_v145 : Ref sig .tc := ⟨.hbm, 185, rfl⟩
abbrev main_v146 : Ref sig .tc := ⟨.hbm, 186, rfl⟩
abbrev main_cst_28 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_cst_29 : Ref sig .tc := ⟨.hbm, 193, rfl⟩
abbrev main_v152 : Ref sig .tc := ⟨.hbm, 194, rfl⟩
abbrev main_cst_30 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_cst_31 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_v163 : Ref sig .tc := ⟨.hbm, 207, rfl⟩
abbrev main_v164 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_cst_32 : Ref sig .tc := ⟨.hbm, 228, rfl⟩
abbrev main_v184 : Ref sig .tc := ⟨.hbm, 229, rfl⟩
abbrev main_v185 : Ref sig .tc := ⟨.hbm, 230, rfl⟩
abbrev main_cst_33 : Ref sig .tc := ⟨.hbm, 231, rfl⟩
abbrev main_v186 : Ref sig .tc := ⟨.hbm, 232, rfl⟩
abbrev main_v187 : Ref sig .tc := ⟨.hbm, 233, rfl⟩
abbrev main_c_34 : Ref sig .tc := ⟨.hbm, 234, rfl⟩
abbrev main_call0_cst : Ref sig .tc := ⟨.hbm, 235, rfl⟩
abbrev main_call0_v0 : Ref sig .tc := ⟨.hbm, 236, rfl⟩
abbrev main_call0_v1 : Ref sig .tc := ⟨.hbm, 237, rfl⟩
abbrev main_call0_cst_0 : Ref sig .tc := ⟨.hbm, 238, rfl⟩
abbrev main_call0_v2 : Ref sig .tc := ⟨.hbm, 239, rfl⟩
abbrev main_call0_v3 : Ref sig .tc := ⟨.hbm, 240, rfl⟩
abbrev main_call0_v4 : Ref sig .tc := ⟨.hbm, 241, rfl⟩
abbrev main_call0_v5 : Ref sig .tc := ⟨.hbm, 242, rfl⟩
abbrev main_call0_v6 : Ref sig .tc := ⟨.hbm, 243, rfl⟩
abbrev main_call0_v7 : Ref sig .tc := ⟨.hbm, 244, rfl⟩
abbrev main_call0_cst_1 : Ref sig .tc := ⟨.hbm, 245, rfl⟩
abbrev main_call0_v8 : Ref sig .tc := ⟨.hbm, 246, rfl⟩
abbrev main_call0_cst_2 : Ref sig .tc := ⟨.hbm, 247, rfl⟩
abbrev main_call0_v9 : Ref sig .tc := ⟨.hbm, 248, rfl⟩
abbrev main_call0_v10 : Ref sig .tc := ⟨.hbm, 249, rfl⟩
abbrev main_call0_v11 : Ref sig .tc := ⟨.hbm, 250, rfl⟩
abbrev main_call0_v12 : Ref sig .tc := ⟨.hbm, 251, rfl⟩
abbrev main_call0_cst_3 : Ref sig .tc := ⟨.hbm, 252, rfl⟩
abbrev main_call0_v13 : Ref sig .tc := ⟨.hbm, 253, rfl⟩
abbrev main_call0_cst_4 : Ref sig .tc := ⟨.hbm, 254, rfl⟩
abbrev main_call0_call0_v0 : Ref sig .tc := ⟨.hbm, 255, rfl⟩
abbrev main_call0_call0_v1 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_v192 : Ref sig .tc := ⟨.hbm, 261, rfl⟩
abbrev main_v193 : Ref sig .tc := ⟨.hbm, 262, rfl⟩
abbrev main_cst_35 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩

abbrev nD : Nat := 1
abbrev τ : Topo := Topo.v7x

variable {F : FTy → Type} [FloatOps F]
-- ==== Proof.Domain.lean ====
/- What the stated precondition says: every mask entry is set and every word of the block table is below 64. -/
module

public import proofs.«01_k».proof.Defs
public import proofs.«01_k».proof.Proof.Gen.Pre_pre
public import Idealize.ShloMosaic.Lib.Affine
public import Idealize.ShloMosaic.Lib.ReduceAll

@[expose] public section

noncomputable section

namespace Cert.Domain

open Idealize.ShloMosaic Cert.Pre_pre Cert.Pre_pre.Gen

variable {F : FTy → Type} [FloatOps F]
variable (x : FVec F S2x4096x1024 .f32) (mask : IVec S2x4096 1) (wq wk wv wo : FVec F S1024x1024 .f32)
  (bo g b : FVec F S1024 .f32) (tab : IVec S16x60x3 32)

/-- A word that is at least 0 and less than 64 as a signed number is less than 64 as an unsigned one. -/
theorem word_lt (w : BitVec 32) (h0 : (0#32).toInt ≤ w.toInt) (h1 : w.toInt < (64#32).toInt) : w.toNat < 64 := by
  have e0 : (0#32).toInt = 0 := by decide
  have e1 : (64#32).toInt = 64 := by decide
  have hw := w.isLt
  have hc := w.toInt_eq_toNat_cond
  rw [e0] at h0
  rw [e1] at h1
  split at hc <;> omega

/-- Under the precondition the mask is set everywhere. -/
theorem mask_set (h : Cert.Pre_pre.fn x mask wq wk wv wo bo g b tab = fun _ => 1#1) (i : S2x4096.Idx) : mask i = 1#1 := by
  have e := congrFun h (fun a => a.elim0)
  exact Host.reduce_andi_all _ _ _ _ _ (IntOp.andi_eq_one.1 e).1 i

/-- Under the precondition every word of the table names one of the 64 blocks. -/
theorem table_lt (h : Cert.Pre_pre.fn x mask wq wk wv wo bo g b tab = fun _ => 1#1) (i : S16x60x3.Idx) : (tab i).toNat < 64 := by
  have e := congrFun h (fun a => a.elim0)
  have e' := IntOp.andi_eq_one.1 (Host.reduce_andi_all _ _ _ _ _ (IntOp.andi_eq_one.1 e).2 i)
  exact word_lt _ (IntOp.cmpi_sge.1 e'.1) (IntOp.cmpi_slt.1 e'.2)

end Cert.Domain

end
-- ==== Proof.Project.lean ====
/- One block of the query/key/value projection: what the body of the first kernel leaves in its output block, and that the
   pipeline may run it at every grid point. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array. -/
def projBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Before the body runs, an input window's staging buffer holds that window's block, provided the proof data keeps
    the region's arrays and leaves the block in place. -/
theorem projBefore_0_of {c : Dev nD} (dat : Dat τ (Elt F) Unit ℕ (UR sig nD τ) ℕ cfg0 c) (hA : dat.A 0 = V c (Pipeline.arrRef spec0 0))
    (hafter : ∀ t, dat.after 0 t = projBlk V c 0 t) (t : Fin cfg0.N) (d) : dat.before 0 t d = projBlk V c 0 t :=
  (dat.before_in_eq_fetched 0 rfl (fun _ => rfl) (fun _ _ _ => rfl) (fun t => by rw [hafter]; unfold Dat.blockOf projBlk; rw [hA]; try rfl) t d).trans
    (by unfold Dat.fetched Dat.blockOf projBlk; rw [hA]; try rfl)
/-- The same for window 1. -/
theorem projBefore_1_of {c : Dev nD} (dat : Dat τ (Elt F) Unit ℕ (UR sig nD τ) ℕ cfg0 c) (hA : dat.A 1 = V c (Pipeline.arrRef spec0 1))
    (hafter : ∀ t, dat.after 1 t = projBlk V c 1 t) (t : Fin cfg0.N) (d) : dat.before 1 t d = projBlk V c 1 t :=
  (dat.before_in_eq_fetched 1 rfl (fun _ => rfl) (fun _ _ _ => rfl) (fun t => by rw [hafter]; unfold Dat.blockOf projBlk; rw [hA]; try rfl) t d).trans
    (by unfold Dat.fetched Dat.blockOf projBlk; rw [hA]; try rfl)

abbrev rProj0 : Rect S512x1024 := Rect.unit (s := S512x1024) ![0, 0] S512x1024.size inb_S512x1024_S512x1024_0_0
abbrev rProj1 : Rect S1024x512 := Rect.unit (s := S1024x512) ![0, 0] S1024x512.size inb_S1024x512_S1024x512_0_0
abbrev rProj2 : Rect S512x512 := Rect.unit (s := S512x512) ![0, 0] S512x512.size inb_S512x512_S512x512_0_0

/-- What one block of the projection computes: a block of rows times a block of columns. -/
def projOut (x0 : Vec F S512x1024 .bf16) (x1 : Vec F S1024x512 .bf16) : Vec F S512x512 .bf16 :=
  View.canon [⟨rProj2, k0_pay1 (View.ld x0 rProj0) (View.ld x1 rProj1)⟩]

/-- The single store fills the whole output block. -/
theorem projCover (p0 : Vec F S512x512 .bf16) (y : S512x512.Idx) :
    ∃ pc ∈ ([⟨rProj2, p0⟩] : List (View.Piece (Elt F) S512x512 .bf16)), y ∈ pc.1.set :=
  View.cover_of_tiled [⟨rProj2, p0⟩] S512x512.size (by rfl) y

set_option maxHeartbeats 1000000 in
/-- One run of the kernel body: it keeps its input blocks and leaves `projOut` of them in the output block. -/
theorem projBody (c : Dev nD) (E : Set ℕ) (i : grid0.Coords) (arg2 : Memref sig .tc .vmem S512x1024 .bf16) (harg2 : arg2.IsWhole) (arg3 : Memref sig .tc .vmem S1024x512 .bf16) (harg3 : arg3.IsWhole) (arg4 : Memref sig .tc .vmem S512x512 .bf16) (harg4 : arg4.IsWhole)
    (x0 : Vec F S512x1024 .bf16) (x1 : Vec F S1024x512 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (projOut x0 x1)) -∗ K ⟨⟩))
      ⊢ wp frame (wpE (defs₀ (F := F)) Variants.none c none) E (cc0__proj_kernel i arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (projCover _)

/-- The region's proof data: arrays as the region finds them, each input block kept, the output block at `projOut`. -/
def projDat (c : Dev nD) : Dat τ (Elt F) Unit ℕ (UR sig nD τ) ℕ cfg0 c where
  A w := V c (Pipeline.arrRef spec0 w)
  after w t := match w with
    | ⟨0, _⟩ => projBlk V c 0 t
    | ⟨1, _⟩ => projBlk V c 1 t
    | ⟨2, _⟩ => projOut (projBlk V c 0 t) (projBlk V c 1 t)
  Φ _ := Pipeline.ΦA spec0 c
  q _ := fullShare
  owed _ := 0

/-- The data's arrays are the ones the region finds. -/
theorem projDat_A (c : Dev nD) (w : Fin cfg0.W) : (projDat V c).A w = V c (Pipeline.arrRef spec0 w) := by
  dsimp only [projDat]

/-- The body leaves the tokens' block as it was, -/
theorem projAfter_0 (c : Dev nD) (t : Fin cfg0.N) : (projDat V c).after 0 t = projBlk V c 0 t := by dsimp only [projDat]
/-- and the weights'. -/
theorem projAfter_1 (c : Dev nD) (t : Fin cfg0.N) : (projDat V c).after 1 t = projBlk V c 1 t := by dsimp only [projDat]
/-- After the body the output block holds `projOut` of the input blocks. -/
theorem projAfter_2 (c : Dev nD) (t : Fin cfg0.N) : (projDat V c).after 2 t = projOut (projBlk V c 0 t) (projBlk V c 1 t) := by dsimp only [projDat]

/-- Under these data, before the body the tokens' staging buffer holds their block, -/
theorem projBefore_0 (c : Dev nD) (t : Fin cfg0.N) (d) : (projDat V c).before 0 t d = projBlk V c 0 t :=
  projBefore_0_of V (projDat V c) (projDat_A V c 0) (projAfter_0 V c) t d
/-- and the weights' theirs. -/
theorem projBefore_1 (c : Dev nD) (t : Fin cfg0.N) (d) : (projDat V c).before 1 t d = projBlk V c 1 t :=
  projBefore_1_of V (projDat V c) (projDat_A V c 1) (projAfter_1 V c) t d

/-- What the body is given at a point. -/
def projPre (c : Dev nD) (t : Fin cfg0.N) : sProp 𝕄 :=
  iprop((projDat V c).Φ t.castSucc ∗ (projDat V c).owesAt () t.castSucc
    ∗ (∃ d, owns (c : Thread nD τ) (st0_0 t) fullShare ((projDat V c).before 0 t d))
    ∗ (∃ d, owns (c : Thread nD τ) (st0_1 t) fullShare ((projDat V c).before 1 t d))
    ∗ (∃ d, owns (c : Thread nD τ) (st0_2 t) fullShare ((projDat V c).before 2 t d)))

/-- What the body gives back at a point. -/
def projPost (c : Dev nD) (t : Fin cfg0.N) : sProp 𝕄 :=
  iprop((projDat V c).Φ t.succ ∗ (projDat V c).owesAt () t.succ
    ∗ owns (c : Thread nD τ) (st0_0 t) fullShare ((projDat V c).after 0 t)
    ∗ owns (c : Thread nD τ) (st0_1 t) fullShare ((projDat V c).after 1 t)
    ∗ owns (c : Thread nD τ) (st0_2 t) fullShare ((projDat V c).after 2 t))

/-- The body at any grid point. -/
theorem projPoint (c : Dev nD) (t : Fin cfg0.N) :
    projPre V c t ⊢ wp frame (wpE (defs₀ (F := F)) Variants.none c none) Set.univ (bodyAt0 t) (fun _ => projPost V c t) := by
  unfold projPre projPost bodyAt0
  simp only [projBefore_0, projBefore_1]
  rw [show (projDat V c).Φ t.succ = (projDat V c).Φ t.castSucc from rfl,
    show (projDat V c).owesAt () t.succ = (projDat V c).owesAt () t.castSucc from rfl,
    projAfter_0, projAfter_1, projAfter_2]
  iintro ⟨HΦ, Ho, ⟨%d0, H0⟩, ⟨%d1, H1⟩, ⟨%d2, H2⟩⟩
  iapply (projBody c Set.univ (grid0.coords t) _ _ _ _ _ _ (projBlk V c 0 t) (projBlk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The table row the pipeline calls at a point is the body at that point. -/
theorem projRow (t : Fin cfg0.N) :
    defs₀ (F := F) .tc cfg0.body (cfg0.bodyArgs t (cfg0.slots t)) = bodyAt0 t := by
  unfold defs₀; rw [Defs.onTc_tc]

/-- The pipeline's obligation on the body holds at every point. -/
theorem projObligation (c : Dev nD) : BodyObligation (projDat (F := F) V c) (defs₀ (F := F)) Variants.none () Set.univ := fun t => by
  rw [bigSep_W0, bigSep_W0, projRow]
  exact triple_restated (projPoint V c t) rfl .rfl fun _ => .rfl

end Cert.KernelIdeal.Hand

end
-- ==== Proof.Attend.lean ====
/- One (batch, head) point of the block-sparse attention kernel: what each trip of its loop stores, what the whole body leaves
   in the output block. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pointwise
public import Idealize.ShloMosaic.Lib.WritesUnit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI Idealize.ShloMosaic
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ
abbrev qRow0 : Rect S1x1x4096x64 := Rect.unit (s := S1x1x4096x64) ![0, 0, 0, 0] S1x1x64x64.size inb_S1x1x4096x64_S1x1x64x64_0_0_0_0
abbrev qRow63 : Rect S1x1x4096x64 := Rect.unit (s := S1x1x4096x64) ![0, 0, 4032, 0] S1x1x64x64.size inb_S1x1x4096x64_S1x1x64x64_0_0_4032_0
abbrev qTop : Rect S1x1x4096x64 := Rect.unit (s := S1x1x4096x64) ![0, 0, 0, 0] S1x1x128x64.size inb_S1x1x4096x64_S1x1x128x64_0_0_0_0
abbrev qBot : Rect S1x1x4096x64 := Rect.unit (s := S1x1x4096x64) ![0, 0, 3968, 0] S1x1x128x64.size inb_S1x1x4096x64_S1x1x128x64_0_0_3968_0
abbrev allRows : Rect S1x1x4096x64 := Rect.unit (s := S1x1x4096x64) ![0, 0, 0, 0] S1x1x4096x64.size inb_S1x1x4096x64_S1x1x4096x64_0_0_0_0
abbrev midRows (k : Fin k1_t1_loop.trips) : Rect S1x1x4096x64 := Rect.unit (s := S1x1x4096x64) (k1_off12 k) S1x1x64x64.size (k1_off12_inb k)

/-- What trip `k` stores: the context of query block `k + 2`, over the band of three key blocks, the first and the last
    block, and the three blocks the words `w1`, `w2`, `w3` name. -/
def midBlock (x3 x4 x5 : Vec F S1x1x4096x64 .bf16) (k : Fin k1_t1_loop.trips) (w1 w2 w3 : BitVec 32)
    (h1 : k1_chk1 w1) (h2 : k1_chk2 w2) (h3 : k1_chk3 w3) : Vec F S1x1x64x64 .bf16 :=
  k1_pay2 (k1_pay8 (k1_pay3 (View.ld x3 (Rect.unit (s := S1x1x4096x64) (k1_off1 k) S1x1x64x64.size (k1_off1_inb k))))
      (k1_pay4 (View.ld x4 (Rect.unit (s := S1x1x4096x64) (k1_off5 k) S1x1x192x64.size (k1_off5_inb k))))
      (k1_pay5 (View.ld x4 qRow0)) (k1_pay6 (View.ld x4 qRow63))
      (k1_pay7 (View.ld x4 (Rect.unit (s := S1x1x4096x64) (k1_off6 w1) S1x1x64x64.size (k1_off6_inb w1 h1))))
      (View.ld x4 (Rect.unit (s := S1x1x4096x64) (k1_off7 w2) S1x1x64x64.size (k1_off7_inb w2 h2)))
      (View.ld x4 (Rect.unit (s := S1x1x4096x64) (k1_off8 w3) S1x1x64x64.size (k1_off8_inb w3 h3))))
    (k1_pay9 (View.ld x5 (Rect.unit (s := S1x1x4096x64) (k1_off9 k) S1x1x192x64.size (k1_off9_inb k))))
    (k1_pay10 (View.ld x5 qRow0)) (k1_pay11 (View.ld x5 qRow63))
    (k1_pay12 (View.ld x5 (Rect.unit (s := S1x1x4096x64) (k1_off10 w1) S1x1x64x64.size (k1_off10_inb w1 h1))))
    (View.ld x5 (Rect.unit (s := S1x1x4096x64) (k1_off11 w2) S1x1x64x64.size (k1_off11_inb w2 h2)))
    (View.ld x5 (Rect.unit (s := S1x1x4096x64) (k1_off8 w3) S1x1x64x64.size (k1_off8_inb w3 h3)))

/-- A word below 64 names a block inside the array. -/
theorem off_ok (w : BitVec 32) (h : w.toNat < 64) (off : Fin 4 → ℕ) (e : off = ![0, 0, w.toNat * 64, 0]) :
    ∀ a, off a + S1x1x64x64.size a ≤ S1x1x4096x64.size a := by
  subst e; intro a; fin_cases a <;> simp [S1x1x64x64, S1x1x4096x64] <;> omega

/-- A load by the first word starts at that block: of the keys, -/
theorem off6_eq (w : BitVec 32) (h : w.toNat < 64) : k1_off6 w = ![0, 0, w.toNat * 64, 0] := by
  funext a
  unfold k1_off6
  fin_cases a <;> simp [Scalar.indexCast, Scalar.muli, IntOp.muli] <;> omega
/-- by the second word, -/
theorem off7_eq (w : BitVec 32) (h : w.toNat < 64) : k1_off7 w = ![0, 0, w.toNat * 64, 0] := off6_eq w h
/-- by the third; -/
theorem off8_eq (w : BitVec 32) (h : w.toNat < 64) : k1_off8 w = ![0, 0, w.toNat * 64, 0] := off6_eq w h
/-- of the values by the first word -/
theorem off10_eq (w : BitVec 32) (h : w.toNat < 64) : k1_off10 w = ![0, 0, w.toNat * 64, 0] := off6_eq w h
/-- and by the second. -/
theorem off11_eq (w : BitVec 32) (h : w.toNat < 64) : k1_off11 w = ![0, 0, w.toNat * 64, 0] := off6_eq w h
/-- So the first word's loads are inside the array, -/
theorem chk1_of (w : BitVec 32) (h : w.toNat < 64) : k1_chk1 w := ⟨off_ok w h _ (off6_eq w h), off_ok w h _ (off10_eq w h)⟩
/-- the second's -/
theorem chk2_of (w : BitVec 32) (h : w.toNat < 64) : k1_chk2 w := ⟨off_ok w h _ (off7_eq w h), off_ok w h _ (off11_eq w h)⟩
/-- and the third's. -/
theorem chk3_of (w : BitVec 32) (h : w.toNat < 64) : k1_chk3 w := off_ok w h _ (off8_eq w h)

/-- The word the trip reads from the table at offsets `off`. -/
def wordAt (x2 : Vec F S16x60x3 .i32) (off : Fin 3 → ℕ) (inb : ∀ a, off a + S1x1x1.size a ≤ S16x60x3.size a) : BitVec 32 :=
  View.ld x2 (Rect.unit (s := S16x60x3) off S1x1x1.size inb) (Shape.Idx.first (numel1_S1x1x1.symm ▸ Nat.one_pos))

/-- A word the trip reads is below 64 when every word of the table is. -/
theorem wordAt_lt (x2 : Vec F S16x60x3 .i32) (hx2 : ∀ y, (x2 y : BitVec 32).toNat < 64) (off : Fin 3 → ℕ)
    (inb : ∀ a, off a + S1x1x1.size a ≤ S16x60x3.size a) : (wordAt x2 off inb).toNat < 64 := hx2 _

set_option maxHeartbeats 2000000 in
/-- One trip keeps the table and the three inputs and stores its block of the context. -/
theorem tripRun (c : Dev nD) (i : grid1.Coords) (arg1 : BitVec 32) (arg2 : Memref sig .tc .smem S16x60x3 .i32) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S1x1x4096x64 .bf16) (harg6 : arg6.IsWhole)
    (x2 : Vec F S16x60x3 .i32) (x3 x4 x5 : Vec F S1x1x4096x64 .bf16) (hx2 : ∀ y, (x2 y : BitVec 32).toNat < 64)
    (k : Fin k1_t1_loop.trips) (f6 : Buf (Elt F) (arg6.view.loc (c : Thread nD τ))) (K : Unit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (arg6.view.loc (c : Thread nD τ) ↦[arg6.view.set]{fullShare} f6)
        ∗ (iprop(owns (c : Thread nD τ) arg2 fullShare x2 ∗ owns (c : Thread nD τ) arg3 fullShare x3 ∗ owns (c : Thread nD τ) arg4 fullShare x4 ∗ owns (c : Thread nD τ) arg5 fullShare x5
        ∗ (arg6.view.loc (c : Thread nD τ) ↦[arg6.view.set]{fullShare} arg6.view.writes (Elt F) f6 [⟨midRows k, midBlock x3 x4 x5 k (wordAt x2 (k1_off2 i k) (k1_off2_inb i k)) (wordAt x2 (k1_off3 i k) (k1_off3_inb i k)) (wordAt x2 (k1_off4 i k) (k1_off4_inb i k)) (chk1_of _ (wordAt_lt x2 hx2 _ _)) (chk2_of _ (wordAt_lt x2 hx2 _ _)) (chk3_of _ (wordAt_lt x2 hx2 _ _))⟩])) -∗ K ()))
      ⊢ wp frame (wpE (defs₀ (F := F)) Variants.none c none) Set.univ (k1_t1_body i arg2 harg2 arg3 harg3 arg4 harg4 arg5 harg5 arg6 harg6 arg1 k ()) K := by
  unfold k1_t1_body
  simp only [k1_part1_eq_skeleton, k1_part2_eq_skeleton]; unfold k1_part1_skel k1_part2_skel
  unfold owns
  iintro ⟨⟨%f2, %hf2, H2⟩, ⟨%f3, %hf3, H3⟩, ⟨%f4, %hf4, H4⟩, ⟨%f5, %hf5, H5⟩, H6, Hk⟩
  subst hf2 hf3 hf4 hf5
  have c1 : k1_chk1 ((arg2.access (Rect.unit (s := S16x60x3) (k1_off2 i k) S1x1x1.size (k1_off2_inb i k))).read (Elt F) f2 (Shape.Idx.first (numel1_S1x1x1.symm ▸ Nat.one_pos))) := chk1_of _ (hx2 _)
  have c2 : k1_chk2 ((arg2.access (Rect.unit (s := S16x60x3) (k1_off3 i k) S1x1x1.size (k1_off3_inb i k))).read (Elt F) f2 (Shape.Idx.first (numel1_S1x1x1.symm ▸ Nat.one_pos))) := chk2_of _ (hx2 _)
  have c3 : k1_chk3 ((arg2.access (Rect.unit (s := S16x60x3) (k1_off4 i k) S1x1x1.size (k1_off4_inb i k))).read (Elt F) f2 (Shape.Idx.first (numel1_S1x1x1.symm ▸ Nat.one_pos))) := chk3_of _ (hx2 _)
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexact H6

/-- The loop makes sixty trips. -/
theorem trips_eq : k1_t1_loop.trips = 60 := by decide +kernel

/-- The trip that stores row `r`. -/
def tripOf (r : ℕ) (h : ¬ 3968 ≤ r) : Fin k1_t1_loop.trips := ⟨(r - 128) / 64, by rw [trips_eq]; omega⟩

/-- What one (batch, head) point of the attention kernel computes: the first and last 128 rows attend to every key, every
    other block of 64 rows is what its trip stores. -/
def attnBlock (i : grid1.Coords) (x2 : Vec F S16x60x3 .i32) (x3 x4 x5 : Vec F S1x1x4096x64 .bf16) (hx2 : ∀ y, (x2 y : BitVec 32).toNat < 64) :
    Vec F S1x1x4096x64 .bf16 := fun y =>
  if h : 3968 ≤ (y 2).val then
    k1_pay1 (k1_pay15 (View.ld x3 qTop) (View.ld x3 qBot) (View.ld x4 allRows) (View.ld x5 allRows))
      (ix4 (n0 := 1) (n1 := 1) (n2 := 128) (n3 := 64) 0 0 ⟨(y 2).val - 3968, by have := (y 2).isLt; simp [S1x1x4096x64] at this; omega⟩ (y 3))
  else if h' : (y 2).val < 128 then
    k1_pay14 (View.ld x3 qTop) (View.ld x3 qBot) (View.ld x4 allRows) (View.ld x5 allRows)
      (ix4 (n0 := 1) (n1 := 1) (n2 := 128) (n3 := 64) 0 0 ⟨(y 2).val, h'⟩ (y 3))
  else
    midBlock x3 x4 x5 (tripOf (y 2).val h) (wordAt x2 (k1_off2 i (tripOf (y 2).val h)) (k1_off2_inb i _))
      (wordAt x2 (k1_off3 i (tripOf (y 2).val h)) (k1_off3_inb i _)) (wordAt x2 (k1_off4 i (tripOf (y 2).val h)) (k1_off4_inb i _))
      (chk1_of _ (wordAt_lt x2 hx2 _ _)) (chk2_of _ (wordAt_lt x2 hx2 _ _)) (chk3_of _ (wordAt_lt x2 hx2 _ _))
      (ix4 (n0 := 1) (n1 := 1) (n2 := 64) (n3 := 64) 0 0 ⟨((y 2).val - 128) % 64, by omega⟩ (y 3))

/-- The rows that are final before trip `k`. -/
def Settled (T g : Vec F S1x1x4096x64 .bf16) (k : ℕ) : Prop :=
  ∀ y : S1x1x4096x64.Idx, ((y 2).val < 128 + k * 64 ∨ 3968 ≤ (y 2).val) → g y = T y

/-- Trip `k`'s rows start at `128 + 64 k`. -/
theorem off12_eq (k : Fin k1_t1_loop.trips) : k1_off12 k = ![0, 0, 128 + k.val * 64, 0] := by
  have : ∀ k : Fin k1_t1_loop.trips, k1_off12 k = ![0, 0, 128 + k.val * 64, 0] := by decide +kernel
  exact this k

/-- Storing trip `k`'s block over contents settled before it settles its rows too. -/
theorem settled_step (i : grid1.Coords) (x2 : Vec F S16x60x3 .i32) (x3 x4 x5 : Vec F S1x1x4096x64 .bf16) (hx2 : ∀ y, (x2 y : BitVec 32).toNat < 64)
    {κ : Kind} {sp : Space} (v : View sig κ sp S1x1x4096x64 .bf16) (f : v.ty.Contents (Elt F)) (k : Fin k1_t1_loop.trips)
    (hf : Settled (attnBlock i x2 x3 x4 x5 hx2) (v.read (Elt F) f) k.val) :
    Settled (attnBlock i x2 x3 x4 x5 hx2) (v.read (Elt F) (v.writes (Elt F) f [⟨midRows k, midBlock x3 x4 x5 k (wordAt x2 (k1_off2 i k) (k1_off2_inb i k)) (wordAt x2 (k1_off3 i k) (k1_off3_inb i k)) (wordAt x2 (k1_off4 i k) (k1_off4_inb i k)) (chk1_of _ (wordAt_lt x2 hx2 _ _)) (chk2_of _ (wordAt_lt x2 hx2 _ _)) (chk3_of _ (wordAt_lt x2 hx2 _ _))⟩])) (k.val + 1) := by
  have hk : k.val < 60 := lt_of_lt_of_eq k.isLt trips_eq
  intro y hy
  by_cases hin : 128 + k.val * 64 ≤ (y 2).val ∧ (y 2).val < 128 + k.val * 64 + 64
  · have hn : ¬ 3968 ≤ (y 2).val := by omega
    have hn' : ¬ (y 2).val < 128 := by omega
    have hkk : tripOf (y 2).val hn = k := Fin.ext (by show ((y 2).val - 128) / 64 = k.val; omega)
    refine Eq.trans (View.read_writes_cons_unit_of_mem (size := S1x1x64x64.size) v f (k1_off12_inb k) _ [] y (ix4 (n0 := 1) (n1 := 1) (n2 := 64) (n3 := 64) 0 0 ⟨((y 2).val - 128) % 64, by omega⟩ (y 3)) (off12_eq k) ?hx) ?hv
    case hv =>
      unfold attnBlock
      rw [dif_neg hn, dif_neg hn']
      subst hkk
      rfl
    · intro a
      have h0 := (y 0).isLt; have h1 := (y 1).isLt
      simp [S1x1x4096x64] at h0 h1
      fin_cases a
      · simp [ix4, h0]
      · simp [ix4, h1]
      · simp [ix4]; omega
      · simp [ix4]
  · refine Eq.trans (View.read_writes_cons_unit_of_not_mem (size := S1x1x64x64.size) v f (k1_off12_inb k) _ [] y (off12_eq k) 2 (by
      show (y 2).val < 128 + k.val * 64 ∨ 128 + k.val * 64 + 64 ≤ (y 2).val
      omega)) ?_
    exact hf y (by omega)

/-- The loop's invariant: the table and the three inputs are kept, and the rows stored so far are final. -/
abbrev attnInv (c : Dev nD) (i : grid1.Coords) (arg2 : Memref sig .tc .smem S16x60x3 .i32) (arg3 arg4 arg5 arg6 : Memref sig .tc .vmem S1x1x4096x64 .bf16)
    (x2 : Vec F S16x60x3 .i32) (x3 x4 x5 : Vec F S1x1x4096x64 .bf16) (hx2 : ∀ y, (x2 y : BitVec 32).toNat < 64) (k : ℕ) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5
    ∗ (∃ f, ⌜Settled (attnBlock i x2 x3 x4 x5 hx2) (arg6.view.read (Elt F) f) k⌝ ∗ (arg6.view.loc (c : Thread nD τ) ↦[arg6.view.set]{fullShare} f)))

/-- One trip takes the invariant to the next. -/
@[reducible] def attnLoop (c : Dev nD) (i : grid1.Coords) (arg1 : BitVec 32) (arg2 : Memref sig .tc .smem S16x60x3 .i32) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S1x1x4096x64 .bf16) (harg6 : arg6.IsWhole)
    (x2 : Vec F S16x60x3 .i32) (x3 x4 x5 : Vec F S1x1x4096x64 .bf16) (hx2 : ∀ y, (x2 y : BitVec 32).toNat < 64) :
    LoopInvTy_k1_t1 (F := F) Unit ℕ (UR sig nD τ) ℕ Variants.none c none Set.univ i arg2 harg2 arg3 harg3 arg4 harg4 arg5 harg5 arg6 harg6 arg1 where
  inv := fun k _ => attnInv c i arg2 arg3 arg4 arg5 arg6 x2 x3 x4 x5 hx2 k
  step := fun k _ => by
    iintro ⟨H2, H3, H4, H5, ⟨%f, %hf, H6⟩⟩
    iapply (tripRun c i arg1 arg2 harg2 arg3 harg3 arg4 harg4 arg5 harg5 arg6 harg6 x2 x3 x4 x5 hx2 k f _)
    isplitl [H2]; · iexact H2
    isplitl [H3]; · iexact H3
    isplitl [H4]; · iexact H4
    isplitl [H5]; · iexact H5
    isplitl [H6]; · iexact H6
    iintro ⟨H2, H3, H4, H5, H6⟩
    isplitl [H2]; · iexact H2
    isplitl [H3]; · iexact H3
    isplitl [H4]; · iexact H4
    isplitl [H5]; · iexact H5
    iexists _; isplitr
    swap; · iexact H6
    ipureintro
    exact settled_step i x2 x3 x4 x5 hx2 arg6.view f k hf

/-- The two stores before the loop settle the first and the last 128 rows. -/
theorem settled_start (i : grid1.Coords) (x2 : Vec F S16x60x3 .i32) (x3 x4 x5 : Vec F S1x1x4096x64 .bf16) (hx2 : ∀ y, (x2 y : BitVec 32).toNat < 64)
    {κ : Kind} {sp : Space} (v : View sig κ sp S1x1x4096x64 .bf16) (f : v.ty.Contents (Elt F)) :
    Settled (attnBlock i x2 x3 x4 x5 hx2) (v.read (Elt F) (v.writes (Elt F) f
      [⟨qBot, k1_pay1 (k1_pay15 (View.ld x3 qTop) (View.ld x3 qBot) (View.ld x4 allRows) (View.ld x5 allRows))⟩,
       ⟨qTop, k1_pay14 (View.ld x3 qTop) (View.ld x3 qBot) (View.ld x4 allRows) (View.ld x5 allRows)⟩])) 0 := by
  intro y hy
  have h0 := (y 0).isLt; have h1 := (y 1).isLt; have h2 := (y 2).isLt
  simp [S1x1x4096x64] at h0 h1 h2
  by_cases hb : 3968 ≤ (y 2).val
  · refine Eq.trans (View.read_writes_cons_unit_of_mem (size := S1x1x128x64.size) v f inb_S1x1x4096x64_S1x1x128x64_0_0_3968_0 _ _ y (ix4 (n0 := 1) (n1 := 1) (n2 := 128) (n3 := 64) 0 0 ⟨(y 2).val - 3968, by omega⟩ (y 3)) rfl ?hx) ?hv
    case hv => unfold attnBlock; rw [dif_pos hb]
    · intro a
      fin_cases a
      · simp [ix4, h0]
      · simp [ix4, h1]
      · simp [ix4]; omega
      · simp [ix4]
  · have ht : (y 2).val < 128 := by omega
    refine Eq.trans (View.read_writes_cons_unit_of_not_mem (size := S1x1x128x64.size) v f inb_S1x1x4096x64_S1x1x128x64_0_0_3968_0 _ _ y rfl 2 (by
      show (y 2).val < 3968 ∨ 3968 + 128 ≤ (y 2).val
      omega)) ?_
    refine Eq.trans (View.read_writes_cons_unit_of_mem (size := S1x1x128x64.size) v f inb_S1x1x4096x64_S1x1x128x64_0_0_0_0 _ _ y (ix4 (n0 := 1) (n1 := 1) (n2 := 128) (n3 := 64) 0 0 ⟨(y 2).val, ht⟩ (y 3)) rfl ?hxt) ?hvt
    case hvt => unfold attnBlock; rw [dif_neg hb, dif_pos ht]
    · intro a
      fin_cases a
      · simp [ix4, h0]
      · simp [ix4, h1]
      · simp [ix4]
      · simp [ix4]

set_option maxHeartbeats 2000000 in
/-- One run of the attention kernel's body at a (batch, head) point: it keeps the table and its inputs and leaves
    `attnBlock` in the output block. -/
theorem attnBody (c : Dev nD) (i : grid1.Coords) (arg2 : Memref sig .tc .smem S16x60x3 .i32) (harg2 : arg2.IsWhole) (arg3 : Memref sig .tc .vmem S1x1x4096x64 .bf16) (harg3 : arg3.IsWhole) (arg4 : Memref sig .tc .vmem S1x1x4096x64 .bf16) (harg4 : arg4.IsWhole) (arg5 : Memref sig .tc .vmem S1x1x4096x64 .bf16) (harg5 : arg5.IsWhole) (arg6 : Memref sig .tc .vmem S1x1x4096x64 .bf16) (harg6 : arg6.IsWhole)
    (x2 : Vec F S16x60x3 .i32) (x3 x4 x5 : Vec F S1x1x4096x64 .bf16) (hx2 : ∀ y, (x2 y : BitVec 32).toNat < 64) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d)
        ∗ (iprop(owns (c : Thread nD τ) arg2 fullShare x2 ∗ owns (c : Thread nD τ) arg3 fullShare x3 ∗ owns (c : Thread nD τ) arg4 fullShare x4 ∗ owns (c : Thread nD τ) arg5 fullShare x5
          ∗ owns (c : Thread nD τ) arg6 fullShare (attnBlock i x2 x3 x4 x5 hx2)) -∗ K ⟨⟩))
      ⊢ wp frame (wpE (defs₀ (F := F)) Variants.none c none) Set.univ (cc1__attn_kernel i arg2 harg2 arg3 harg3 arg4 harg4 arg5 harg5 arg6 harg6) K := by
  simp only [cc1__attn_kernel_eq_skeleton]; unfold cc1__attn_kernel_skel
  simp only [k1_part3_eq_skeleton]; unfold k1_part3_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2 hf3 hf4 hf5
  have hs := settled_start i (arg2.view.read (Elt F) f2) (arg3.view.read (Elt F) f3) (arg4.view.read (Elt F) f4) (arg5.view.read (Elt F) f5) hx2 arg6.view f6
  let L1 := attnLoop c i (BitVec.ofNat 32 (i 1).val) arg2 harg2 arg3 harg3 arg4 harg4 arg5 harg5 arg6 harg6 (arg2.view.read (Elt F) f2) (arg3.view.read (Elt F) f3) (arg4.view.read (Elt F) f4) (arg5.view.read (Elt F) f5) hx2
  sl_exec
  sl_step
  iapply Hk
  isplitl [H2]
  · iexists fL0; isplitr; · ipureintro; assumption
    iexact H2
  isplitl [H3]
  · iexists fL1; isplitr; · ipureintro; assumption
    iexact H3
  isplitl [H4]
  · iexists fL2; isplitr; · ipureintro; assumption
    iexact H4
  isplitl [H5]
  · iexists fL3; isplitr; · ipureintro; assumption
    iexact H5
  iexists fL4; isplitr
  swap; · iexact H6
  ipureintro
  funext y
  refine hL8 y ?_
  rw [show Scf.trips k1_t1_loop.lb k1_t1_loop.ub k1_t1_loop.st = 60 from trips_eq]
  omega

end Cert.KernelIdeal.Hand

end
-- ==== Proof.AttendRegion.lean ====
/- The attention region: the proof data of its pipeline over one admissible table, and that the pipeline may run the body at
   every (batch, head) point. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Attend
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI Idealize.ShloMosaic
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (a1 : (pcfg1 (F := F)).Adm) (hw : ∀ y : S16x60x3.Idx, ((a1.1 0 : Vec F S16x60x3 .i32) y : BitVec 32).toNat < 64)
variable (V : (c : Dev nD) → (b : Ref sig .tc) → Buf (Elt F) ((c : Thread nD τ).loc b))

/-- The block of window `w` at grid point `t`, read off the window's array. -/
def attnBlk (c : Dev nD) (w : Fin 4) (t : Fin (cfg1 a1).N) : (((cfg1 a1).win w).xblock ((cfg1 a1).grid.coords t)).Idx → Elt F ((cfg1 a1).win w).elt :=
  (((cfg1 a1).win w).blk t).view.read (Elt F) (V c (Pipeline.arrRef spec1 w))

/-- The prefetched table on one core. -/
abbrev tableAt (c : Dev nD) : sProp 𝕄 :=
  Pipeline.prefHeld (Ix := Unit) (Name := ℕ) (U := UR sig nD τ) (Lvl := ℕ) pre1 c (fun _ => fullShare) a1.1

/-- The table held is the table's buffer held whole. -/
theorem tableAt_eq (c : Dev nD) :
    tableAt a1 c = owns (c : Thread nD τ) (Memref.whole main_arg9) fullShare (a1.1 0 : Vec F S16x60x3 .i32) := by
  have h : tableAt a1 c = iprop(((c : Thread nD τ).loc main_arg9) ↦{fullShare} (a1.1 0)) := by
    unfold tableAt Pipeline.prefHeld
    exact bigSep_univ_eq_bigSepL (M := 𝕄) [(0 : Fin 1)] (by decide) (by decide) _
  exact h.trans (owns_whole (Ix := Unit) (Name := ℕ) (U := UR sig nD τ) (Lvl := ℕ) (c : Thread nD τ) main_arg9 fullShare (a1.1 0)).symm

/-- What one point computes from the blocks it is given. -/
def attnOut (c : Dev nD) (t : Fin (cfg1 a1).N) : Vec F S1x1x4096x64 .bf16 :=
  attnBlock ((cfg1 a1).grid.coords t) (a1.1 0 : Vec F S16x60x3 .i32) (attnBlk a1 V c 0 t) (attnBlk a1 V c 1 t) (attnBlk a1 V c 2 t) hw

/-- The region's proof data: arrays as the region finds them, each input block kept, the output block at `attnOut`, the
    table held beside the scratch. -/
def attnDat (c : Dev nD) : Dat τ (Elt F) Unit ℕ (UR sig nD τ) ℕ (cfg1 a1) c where
  A w := V c (Pipeline.arrRef spec1 w)
  after w t := match w with
    | ⟨0, _⟩ => attnBlk a1 V c 0 t
    | ⟨1, _⟩ => attnBlk a1 V c 1 t
    | ⟨2, _⟩ => attnBlk a1 V c 2 t
    | ⟨3, _⟩ => attnOut a1 hw V c t
  Φ _ := iprop(Pipeline.ΦA spec1 c ∗ tableAt a1 c)
  q _ := fullShare
  owed _ := 0

/-- The data's arrays are the ones the region finds. -/
theorem attnDat_A (c : Dev nD) (w : Fin 4) : (attnDat a1 hw V c).A w = V c (Pipeline.arrRef spec1 w) := by
  dsimp only [attnDat]
/-- The body leaves the queries' block as it was, -/
theorem attnAfter_0 (c : Dev nD) (t : Fin (cfg1 a1).N) : (attnDat a1 hw V c).after (0 : Fin 4) t = attnBlk a1 V c 0 t := by dsimp only [attnDat]
/-- and the keys' -/
theorem attnAfter_1 (c : Dev nD) (t : Fin (cfg1 a1).N) : (attnDat a1 hw V c).after (1 : Fin 4) t = attnBlk a1 V c 1 t := by dsimp only [attnDat]
/-- and the values'. -/
theorem attnAfter_2 (c : Dev nD) (t : Fin (cfg1 a1).N) : (attnDat a1 hw V c).after (2 : Fin 4) t = attnBlk a1 V c 2 t := by dsimp only [attnDat]
/-- After the body the output block holds the point's context. -/
theorem attnAfter_3 (c : Dev nD) (t : Fin (cfg1 a1).N) : (attnDat a1 hw V c).after (3 : Fin 4) t = attnOut a1 hw V c t := by dsimp only [attnDat]

/-- Before the body runs, input window 0's staging buffer holds that window's block. -/
theorem attnBefore_0 (c : Dev nD) (t : Fin (cfg1 a1).N) (d) : (attnDat a1 hw V c).before (0 : Fin 4) t d = attnBlk a1 V c 0 t :=
  ((attnDat a1 hw V c).before_in_eq_fetched (0 : Fin 4) rfl (fun _ => rfl) (fun _ _ _ => rfl) (fun t => by rw [attnAfter_0]; unfold Dat.blockOf attnBlk; rw [attnDat_A]; try rfl) t d).trans
    (by unfold Dat.fetched Dat.blockOf attnBlk; rw [attnDat_A]; try rfl)
/-- Before the body runs, input window 1's staging buffer holds that window's block. -/
theorem attnBefore_1 (c : Dev nD) (t : Fin (cfg1 a1).N) (d) : (attnDat a1 hw V c).before (1 : Fin 4) t d = attnBlk a1 V c 1 t :=
  ((attnDat a1 hw V c).before_in_eq_fetched (1 : Fin 4) rfl (fun _ => rfl) (fun _ _ _ => rfl) (fun t => by rw [attnAfter_1]; unfold Dat.blockOf attnBlk; rw [attnDat_A]; try rfl) t d).trans
    (by unfold Dat.fetched Dat.blockOf attnBlk; rw [attnDat_A]; try rfl)
/-- Before the body runs, input window 2's staging buffer holds that window's block. -/
theorem attnBefore_2 (c : Dev nD) (t : Fin (cfg1 a1).N) (d) : (attnDat a1 hw V c).before (2 : Fin 4) t d = attnBlk a1 V c 2 t :=
  ((attnDat a1 hw V c).before_in_eq_fetched (2 : Fin 4) rfl (fun _ => rfl) (fun _ _ _ => rfl) (fun t => by rw [attnAfter_2]; unfold Dat.blockOf attnBlk; rw [attnDat_A]; try rfl) t d).trans
    (by unfold Dat.fetched Dat.blockOf attnBlk; rw [attnDat_A]; try rfl)

/-- The staging memref window `w` is on at point `t`. -/
abbrev st1 (w : Fin 4) (t : Fin (cfg1 a1).N) := ((cfg1 a1).win w).stage ((cfg1 a1).slots t w)

/-- The kernel body as the pipeline calls it at a point. -/
abbrev bodyAt1 (t : Fin (cfg1 a1).N) : Prog (TpuEff nD τ sig (Elt F) Λ₀ .tc) PUnit :=
  cc1__attn_kernel ((cfg1 a1).grid.coords t) (Memref.whole main_arg9) (Memref.isWhole_whole _) (spec1_0.stage ((cfg1 a1).slots t (0 : Fin 4))) (hstage1_0 (((cfg1 a1).slots t (0 : Fin 4)).cast nbuf1_0)) (spec1_1.stage ((cfg1 a1).slots t (1 : Fin 4))) (hstage1_1 (((cfg1 a1).slots t (1 : Fin 4)).cast nbuf1_1)) (spec1_2.stage ((cfg1 a1).slots t (2 : Fin 4))) (hstage1_2 (((cfg1 a1).slots t (2 : Fin 4)).cast nbuf1_2)) (spec1_3.stage ((cfg1 a1).slots t (3 : Fin 4))) (hstage1_3 (((cfg1 a1).slots t (3 : Fin 4)).cast nbuf1_3))

/-- What the body is given at a point. -/
def attnPre (c : Dev nD) (t : Fin (cfg1 a1).N) : sProp 𝕄 :=
  iprop((attnDat a1 hw V c).Φ t.castSucc ∗ (attnDat a1 hw V c).owesAt () t.castSucc
    ∗ (∃ d, owns (c : Thread nD τ) (st1 a1 0 t) fullShare ((attnDat a1 hw V c).before (0 : Fin 4) t d))
    ∗ (∃ d, owns (c : Thread nD τ) (st1 a1 1 t) fullShare ((attnDat a1 hw V c).before (1 : Fin 4) t d))
    ∗ (∃ d, owns (c : Thread nD τ) (st1 a1 2 t) fullShare ((attnDat a1 hw V c).before (2 : Fin 4) t d))
    ∗ (∃ d, owns (c : Thread nD τ) (st1 a1 3 t) fullShare ((attnDat a1 hw V c).before (3 : Fin 4) t d)))

/-- What the body gives back at a point. -/
def attnPost (c : Dev nD) (t : Fin (cfg1 a1).N) : sProp 𝕄 :=
  iprop((attnDat a1 hw V c).Φ t.succ ∗ (attnDat a1 hw V c).owesAt () t.succ
    ∗ owns (c : Thread nD τ) (st1 a1 0 t) fullShare ((attnDat a1 hw V c).after (0 : Fin 4) t)
    ∗ owns (c : Thread nD τ) (st1 a1 1 t) fullShare ((attnDat a1 hw V c).after (1 : Fin 4) t)
    ∗ owns (c : Thread nD τ) (st1 a1 2 t) fullShare ((attnDat a1 hw V c).after (2 : Fin 4) t)
    ∗ owns (c : Thread nD τ) (st1 a1 3 t) fullShare ((attnDat a1 hw V c).after (3 : Fin 4) t))

/-- The body at any grid point. -/
theorem attnPoint (c : Dev nD) (t : Fin (cfg1 a1).N) :
    attnPre a1 hw V c t ⊢ wp frame (wpE (defs₀ (F := F)) Variants.none c none) Set.univ (bodyAt1 a1 t) (fun _ => attnPost a1 hw V c t) := by
  unfold attnPre attnPost bodyAt1
  simp only [attnBefore_0, attnBefore_1, attnBefore_2]
  rw [show (attnDat a1 hw V c).Φ t.succ = iprop(Pipeline.ΦA spec1 c ∗ tableAt a1 c) from rfl,
    show (attnDat a1 hw V c).Φ t.castSucc = iprop(Pipeline.ΦA spec1 c ∗ tableAt a1 c) from rfl,
    show (attnDat a1 hw V c).owesAt () t.succ = (attnDat a1 hw V c).owesAt () t.castSucc from rfl,
    attnAfter_0, attnAfter_1, attnAfter_2, attnAfter_3, tableAt_eq]
  iintro ⟨⟨HΦ, HT⟩, Ho, ⟨%d0, H0⟩, ⟨%d1, H1⟩, ⟨%d2, H2⟩, ⟨%d3, H3⟩⟩
  iapply (attnBody c ((cfg1 a1).grid.coords t) _ _ _ _ _ _ _ _ _ _ (a1.1 0 : Vec F S16x60x3 .i32) (attnBlk a1 V c 0 t) (attnBlk a1 V c 1 t) (attnBlk a1 V c 2 t) hw _)
  isplitl [HT]; · iexact HT
  isplitl [H0]; · iexact H0
  isplitl [H1]; · iexact H1
  isplitl [H2]; · iexact H2
  isplitl [H3]; · iexists _; iexact H3
  iintro ⟨HT, H0, H1, H2, H3⟩
  isplitl [HΦ HT]
  · isplitl [HΦ]; · iexact HΦ
    iexact HT
  isplitl [Ho]; · iexact Ho
  isplitl [H0]; · iexact H0
  isplitl [H1]; · iexact H1
  isplitl [H2]; · iexact H2
  iexact H3

/-- The table row the pipeline calls at a point is the body at that point. -/
theorem attnRow (t : Fin (cfg1 a1).N) :
    defs₀ (F := F) .tc (cfg1 a1).body ((cfg1 a1).bodyArgs t ((cfg1 a1).slots t)) = bodyAt1 a1 t := by
  unfold defs₀; rw [Defs.onTc_tc]

/-- The pipeline's obligation on the body holds at every point. -/
theorem attnObligation (c : Dev nD) : BodyObligation (attnDat a1 hw V c) (defs₀ (F := F)) Variants.none () Set.univ := fun t => by
  rw [attnRow]
  refine triple_restated (attnPoint a1 hw V c t) rfl (Entails.of_eq ?_) fun _ => (Entails.of_eq ?_)
  · unfold attnPre; rw [show (bigSep (Finset.univ : Finset (Fin 4)) _ : sProp 𝕄) = _ from bigSep_W1 _]
  · unfold attnPost; rw [show (bigSep (Finset.univ : Finset (Fin 4)) _ : sProp 𝕄) = _ from bigSep_W1 _]

end Cert.KernelIdeal.Hand

end
-- ==== Proof.OutNorm.lean ====
/- One block of the output projection with its layer norm: what the body of the third kernel leaves in its output block, and
   that the pipeline may run it at every grid point. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block of window `w` at grid point `t`, read off the window's array. -/
def outnBlk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Before the body runs, an input window's staging buffer holds that window's block, provided the proof data keeps
    the region's arrays and leaves the block in place. -/
theorem outnBefore_0_of {c : Dev nD} (dat : Dat τ (Elt F) Unit ℕ (UR sig nD τ) ℕ cfg2 c) (hA : dat.A 0 = V c (Pipeline.arrRef spec2 0))
    (hafter : ∀ t, dat.after 0 t = outnBlk V c 0 t) (t : Fin cfg2.N) (d) : dat.before 0 t d = outnBlk V c 0 t :=
  (dat.before_in_eq_fetched 0 rfl (fun _ => rfl) (fun _ _ _ => rfl) (fun t => by rw [hafter]; unfold Dat.blockOf outnBlk; rw [hA]; try rfl) t d).trans
    (by unfold Dat.fetched Dat.blockOf outnBlk; rw [hA]; try rfl)
/-- The same for window 1. -/
theorem outnBefore_1_of {c : Dev nD} (dat : Dat τ (Elt F) Unit ℕ (UR sig nD τ) ℕ cfg2 c) (hA : dat.A 1 = V c (Pipeline.arrRef spec2 1))
    (hafter : ∀ t, dat.after 1 t = outnBlk V c 1 t) (t : Fin cfg2.N) (d) : dat.before 1 t d = outnBlk V c 1 t :=
  (dat.before_in_eq_fetched 1 rfl (fun _ => rfl) (fun _ _ _ => rfl) (fun t => by rw [hafter]; unfold Dat.blockOf outnBlk; rw [hA]; try rfl) t d).trans
    (by unfold Dat.fetched Dat.blockOf outnBlk; rw [hA]; try rfl)
/-- The same for window 2. -/
theorem outnBefore_2_of {c : Dev nD} (dat : Dat τ (Elt F) Unit ℕ (UR sig nD τ) ℕ cfg2 c) (hA : dat.A 2 = V c (Pipeline.arrRef spec2 2))
    (hafter : ∀ t, dat.after 2 t = outnBlk V c 2 t) (t : Fin cfg2.N) (d) : dat.before 2 t d = outnBlk V c 2 t :=
  (dat.before_in_eq_fetched 2 rfl (fun _ => rfl) (fun _ _ _ => rfl) (fun t => by rw [hafter]; unfold Dat.blockOf outnBlk; rw [hA]; try rfl) t d).trans
    (by unfold Dat.fetched Dat.blockOf outnBlk; rw [hA]; try rfl)
/-- The same for window 3. -/
theorem outnBefore_3_of {c : Dev nD} (dat : Dat τ (Elt F) Unit ℕ (UR sig nD τ) ℕ cfg2 c) (hA : dat.A 3 = V c (Pipeline.arrRef spec2 3))
    (hafter : ∀ t, dat.after 3 t = outnBlk V c 3 t) (t : Fin cfg2.N) (d) : dat.before 3 t d = outnBlk V c 3 t :=
  (dat.before_in_eq_fetched 3 rfl (fun _ => rfl) (fun _ _ _ => rfl) (fun t => by rw [hafter]; unfold Dat.blockOf outnBlk; rw [hA]; try rfl) t d).trans
    (by unfold Dat.fetched Dat.blockOf outnBlk; rw [hA]; try rfl)
/-- The same for window 4. -/
theorem outnBefore_4_of {c : Dev nD} (dat : Dat τ (Elt F) Unit ℕ (UR sig nD τ) ℕ cfg2 c) (hA : dat.A 4 = V c (Pipeline.arrRef spec2 4))
    (hafter : ∀ t, dat.after 4 t = outnBlk V c 4 t) (t : Fin cfg2.N) (d) : dat.before 4 t d = outnBlk V c 4 t :=
  (dat.before_in_eq_fetched 4 rfl (fun _ => rfl) (fun _ _ _ => rfl) (fun t => by rw [hafter]; unfold Dat.blockOf outnBlk; rw [hA]; try rfl) t d).trans
    (by unfold Dat.fetched Dat.blockOf outnBlk; rw [hA]; try rfl)
/-- The same for window 5. -/
theorem outnBefore_5_of {c : Dev nD} (dat : Dat τ (Elt F) Unit ℕ (UR sig nD τ) ℕ cfg2 c) (hA : dat.A 5 = V c (Pipeline.arrRef spec2 5))
    (hafter : ∀ t, dat.after 5 t = outnBlk V c 5 t) (t : Fin cfg2.N) (d) : dat.before 5 t d = outnBlk V c 5 t :=
  (dat.before_in_eq_fetched 5 rfl (fun _ => rfl) (fun _ _ _ => rfl) (fun t => by rw [hafter]; unfold Dat.blockOf outnBlk; rw [hA]; try rfl) t d).trans
    (by unfold Dat.fetched Dat.blockOf outnBlk; rw [hA]; try rfl)

abbrev rOut0 : Rect S512x1024 := Rect.unit (s := S512x1024) ![0, 0] S512x1024.size inb_S512x1024_S512x1024_0_0
abbrev rOut1 : Rect S1024x1024 := Rect.unit (s := S1024x1024) ![0, 0] S1024x1024.size inb_S1024x1024_S1024x1024_0_0
abbrev rOut2 : Rect S1x1024 := Rect.unit (s := S1x1024) ![0, 0] S1x1024.size inb_S1x1024_S1x1024_0_0

/-- What one block of the last kernel computes: output projection, bias, residual and layer norm of a block of rows. -/
def outnOut (x0 : Vec F S512x1024 .bf16) (x1 : Vec F S1024x1024 .bf16) (x2 : Vec F S512x1024 .f32) (x3 : Vec F S1x1024 .f32) (x4 : Vec F S1x1024 .f32) (x5 : Vec F S1x1024 .f32) : Vec F S512x1024 .f32 :=
  View.canon [⟨rOut0, k2_pay1 (View.ld x0 rOut0) (View.ld x1 rOut1) (View.ld x3 rOut2) (View.ld x2 rOut0) (View.ld x4 rOut2) (View.ld x5 rOut2)⟩]

/-- The single store fills the whole output block. -/
theorem outnCover (p0 : Vec F S512x1024 .f32) (y : S512x1024.Idx) :
    ∃ pc ∈ ([⟨rOut0, p0⟩] : List (View.Piece (Elt F) S512x1024 .f32)), y ∈ pc.1.set :=
  View.cover_of_tiled [⟨rOut0, p0⟩] S512x1024.size (by rfl) y

set_option maxHeartbeats 1000000 in
/-- One run of the kernel body: it keeps its input blocks and leaves `outnOut` of them in the output block. -/
theorem outnBody (c : Dev nD) (E : Set ℕ) (i : grid2.Coords) (arg1 : Memref sig .tc .vmem S512x1024 .bf16) (harg1 : arg1.IsWhole) (arg2 : Memref sig .tc .vmem S1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x1024 .f32) (harg7 : arg7.IsWhole)
    (x0 : Vec F S512x1024 .bf16) (x1 : Vec F S1024x1024 .bf16) (x2 : Vec F S512x1024 .f32) (x3 : Vec F S1x1024 .f32) (x4 : Vec F S1x1024 .f32) (x5 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outnOut x0 x1 x2 x3 x4 x5)) -∗ K ⟨⟩))
      ⊢ wp frame (wpE (defs₀ (F := F)) Variants.none c none) E (cc2__out_kernel i arg1 harg1 arg2 harg2 arg3 harg3 arg4 harg4 arg5 harg5 arg6 harg6 arg7 harg7) K := by
  simp only [cc2__out_kernel_eq_skeleton]; unfold cc2__out_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (outnCover _)

/-- The region's proof data: arrays as the region finds them, each input block kept, the output block at `outnOut`. -/
def outnDat (c : Dev nD) : Dat τ (Elt F) Unit ℕ (UR sig nD τ) ℕ cfg2 c where
  A w := V c (Pipeline.arrRef spec2 w)
  after w t := match w with
    | ⟨0, _⟩ => outnBlk V c 0 t
    | ⟨1, _⟩ => outnBlk V c 1 t
    | ⟨2, _⟩ => outnBlk V c 2 t
    | ⟨3, _⟩ => outnBlk V c 3 t
    | ⟨4, _⟩ => outnBlk V c 4 t
    | ⟨5, _⟩ => outnBlk V c 5 t
    | ⟨6, _⟩ => outnOut (outnBlk V c 0 t) (outnBlk V c 1 t) (outnBlk V c 2 t) (outnBlk V c 3 t) (outnBlk V c 4 t) (outnBlk V c 5 t)
  Φ _ := Pipeline.ΦA spec2 c
  q _ := fullShare
  owed _ := 0

/-- The data's arrays are the ones the region finds. -/
theorem outnDat_A (c : Dev nD) (w : Fin cfg2.W) : (outnDat V c).A w = V c (Pipeline.arrRef spec2 w) := by
  dsimp only [outnDat]

/-- The body leaves each of its six input blocks as it was. -/
theorem outnAfter_0 (c : Dev nD) (t : Fin cfg2.N) : (outnDat V c).after 0 t = outnBlk V c 0 t := by dsimp only [outnDat]
/-- The same for window 1. -/
theorem outnAfter_1 (c : Dev nD) (t : Fin cfg2.N) : (outnDat V c).after 1 t = outnBlk V c 1 t := by dsimp only [outnDat]
/-- The same for window 2. -/
theorem outnAfter_2 (c : Dev nD) (t : Fin cfg2.N) : (outnDat V c).after 2 t = outnBlk V c 2 t := by dsimp only [outnDat]
/-- The same for window 3. -/
theorem outnAfter_3 (c : Dev nD) (t : Fin cfg2.N) : (outnDat V c).after 3 t = outnBlk V c 3 t := by dsimp only [outnDat]
/-- The same for window 4. -/
theorem outnAfter_4 (c : Dev nD) (t : Fin cfg2.N) : (outnDat V c).after 4 t = outnBlk V c 4 t := by dsimp only [outnDat]
/-- The same for window 5. -/
theorem outnAfter_5 (c : Dev nD) (t : Fin cfg2.N) : (outnDat V c).after 5 t = outnBlk V c 5 t := by dsimp only [outnDat]
/-- After the body the output block holds `outnOut` of the input blocks. -/
theorem outnAfter_6 (c : Dev nD) (t : Fin cfg2.N) : (outnDat V c).after 6 t = outnOut (outnBlk V c 0 t) (outnBlk V c 1 t) (outnBlk V c 2 t) (outnBlk V c 3 t) (outnBlk V c 4 t) (outnBlk V c 5 t) := by dsimp only [outnDat]

/-- Under these data, before the body each input's staging buffer holds its block. -/
theorem outnBefore_0 (c : Dev nD) (t : Fin cfg2.N) (d) : (outnDat V c).before 0 t d = outnBlk V c 0 t :=
  outnBefore_0_of V (outnDat V c) (outnDat_A V c 0) (outnAfter_0 V c) t d
/-- The same for window 1. -/
theorem outnBefore_1 (c : Dev nD) (t : Fin cfg2.N) (d) : (outnDat V c).before 1 t d = outnBlk V c 1 t :=
  outnBefore_1_of V (outnDat V c) (outnDat_A V c 1) (outnAfter_1 V c) t d
/-- The same for window 2. -/
theorem outnBefore_2 (c : Dev nD) (t : Fin cfg2.N) (d) : (outnDat V c).before 2 t d = outnBlk V c 2 t :=
  outnBefore_2_of V (outnDat V c) (outnDat_A V c 2) (outnAfter_2 V c) t d
/-- The same for window 3. -/
theorem outnBefore_3 (c : Dev nD) (t : Fin cfg2.N) (d) : (outnDat V c).before 3 t d = outnBlk V c 3 t :=
  outnBefore_3_of V (outnDat V c) (outnDat_A V c 3) (outnAfter_3 V c) t d
/-- The same for window 4. -/
theorem outnBefore_4 (c : Dev nD) (t : Fin cfg2.N) (d) : (outnDat V c).before 4 t d = outnBlk V c 4 t :=
  outnBefore_4_of V (outnDat V c) (outnDat_A V c 4) (outnAfter_4 V c) t d
/-- The same for window 5. -/
theorem outnBefore_5 (c : Dev nD) (t : Fin cfg2.N) (d) : (outnDat V c).before 5 t d = outnBlk V c 5 t :=
  outnBefore_5_of V (outnDat V c) (outnDat_A V c 5) (outnAfter_5 V c) t d

/-- What the body is given at a point. -/
def outnPre (c : Dev nD) (t : Fin cfg2.N) : sProp 𝕄 :=
  iprop((outnDat V c).Φ t.castSucc ∗ (outnDat V c).owesAt () t.castSucc
    ∗ (∃ d, owns (c : Thread nD τ) (st2_0 t) fullShare ((outnDat V c).before 0 t d))
    ∗ (∃ d, owns (c : Thread nD τ) (st2_1 t) fullShare ((outnDat V c).before 1 t d))
    ∗ (∃ d, owns (c : Thread nD τ) (st2_2 t) fullShare ((outnDat V c).before 2 t d))
    ∗ (∃ d, owns (c : Thread nD τ) (st2_3 t) fullShare ((outnDat V c).before 3 t d))
    ∗ (∃ d, owns (c : Thread nD τ) (st2_4 t) fullShare ((outnDat V c).before 4 t d))
    ∗ (∃ d, owns (c : Thread nD τ) (st2_5 t) fullShare ((outnDat V c).before 5 t d))
    ∗ (∃ d, owns (c : Thread nD τ) (st2_6 t) fullShare ((outnDat V c).before 6 t d)))

/-- What the body gives back at a point. -/
def outnPost (c : Dev nD) (t : Fin cfg2.N) : sProp 𝕄 :=
  iprop((outnDat V c).Φ t.succ ∗ (outnDat V c).owesAt () t.succ
    ∗ owns (c : Thread nD τ) (st2_0 t) fullShare ((outnDat V c).after 0 t)
    ∗ owns (c : Thread nD τ) (st2_1 t) fullShare ((outnDat V c).after 1 t)
    ∗ owns (c : Thread nD τ) (st2_2 t) fullShare ((outnDat V c).after 2 t)
    ∗ owns (c : Thread nD τ) (st2_3 t) fullShare ((outnDat V c).after 3 t)
    ∗ owns (c : Thread nD τ) (st2_4 t) fullShare ((outnDat V c).after 4 t)
    ∗ owns (c : Thread nD τ) (st2_5 t) fullShare ((outnDat V c).after 5 t)
    ∗ owns (c : Thread nD τ) (st2_6 t) fullShare ((outnDat V c).after 6 t))

/-- The body at any grid point. -/
theorem outnPoint (c : Dev nD) (t : Fin cfg2.N) :
    outnPre V c t ⊢ wp frame (wpE (defs₀ (F := F)) Variants.none c none) Set.univ (bodyAt2 t) (fun _ => outnPost V c t) := by
  unfold outnPre outnPost bodyAt2
  simp only [outnBefore_0, outnBefore_1, outnBefore_2, outnBefore_3, outnBefore_4, outnBefore_5]
  rw [show (outnDat V c).Φ t.succ = (outnDat V c).Φ t.castSucc from rfl,
    show (outnDat V c).owesAt () t.succ = (outnDat V c).owesAt () t.castSucc from rfl,
    outnAfter_0, outnAfter_1, outnAfter_2, outnAfter_3, outnAfter_4, outnAfter_5, outnAfter_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (outnBody c Set.univ (grid2.coords t) _ _ _ _ _ _ _ _ _ _ _ _ _ _ (outnBlk V c 0 t) (outnBlk V c 1 t) (outnBlk V c 2 t) (outnBlk V c 3 t) (outnBlk V c 4 t) (outnBlk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The table row the pipeline calls at a point is the body at that point. -/
theorem outnRow (t : Fin cfg2.N) :
    defs₀ (F := F) .tc cfg2.body (cfg2.bodyArgs t (cfg2.slots t)) = bodyAt2 t := by
  unfold defs₀; rw [Defs.onTc_tc]

/-- The pipeline's obligation on the body holds at every point. -/
theorem outnObligation (c : Dev nD) : BodyObligation (outnDat (F := F) V c) (defs₀ (F := F)) Variants.none () Set.univ := fun t => by
  rw [bigSep_W2, bigSep_W2, outnRow]
  exact triple_restated (outnPoint V c t) rfl .rfl fun _ => .rfl

end Cert.KernelIdeal.Hand

end
-- ==== Proof.Boundary.lean ====
/- The contents of the buffers at every boundary between host stretches and kernels. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Project
public import proofs.«01_k».proof.Proof.AttendRegion
public import proofs.«01_k».proof.Proof.OutNorm
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI Idealize.ShloMosaic
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched table as the only core's memory holds it. -/
def table : (pcfg1 (F := F)).Adm := ⟨fun k => m (((0 : Dev nD) : Thread nD τ).loc (pre1.ref k)), trivial⟩

/-- Every word of the table names a key block. -/
def Words : Prop := ∀ y : S16x60x3.Idx, ((m (((0 : Dev nD) : Thread nD τ).loc main_arg9) : Vec F S16x60x3 .i32) y : BitVec 32).toNat < 64

variable (hw : Words m)

/-- The tables every pipeline is pinned at. -/
abbrev adm : (p : Fin 3) → (pcfgs (F := F) p).Adm
  | ⟨0, _⟩ => cfg0.toPCfg_adm
  | ⟨1, _⟩ => table m
  | ⟨2, _⟩ => cfg2.toPCfg_adm

/-! ## The buffers at each boundary -/

/-- At launch. -/
abbrev B0 : Dev nD → Valuation τ sig (Elt F) := fun c b => m ((c : Dev nD), b)
/-- After the first host stretch: the tokens and the fused weights in half precision. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the projection. -/
def B2 (c : Dev nD) : Valuation τ sig (Elt F) :=
  Pipeline.withArrays spec0 c (B1 m c) fun w => (projDat (E1 m) c).arrAt w cfg0.N
abbrev E2 : (c : Dev nD) → (b : Ref sig .tc) → Buf (Elt F) ((c : Thread nD τ).loc b) := fun c b => B2 m c b
/-- After the second host stretch: queries, keys and values by head. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- After the attention. -/
def B4 (c : Dev nD) : Valuation τ sig (Elt F) :=
  Pipeline.withArrays spec1 c (B3 m c) fun w => (attnDat (table m) hw (E3 m) c).arrAt w (cfg1 (table m)).N
abbrev E4 : (c : Dev nD) → (b : Ref sig .tc) → Buf (Elt F) ((c : Thread nD τ).loc b) := fun c b => B4 m hw c b
/-- After the third host stretch: the context by token, the output weights and the norm's parameters. -/
abbrev B5 : Dev nD → Valuation τ sig (Elt F) := fun c => StableHlo.after hostOps2 (B4 m hw c)
abbrev E5 : (c : Dev nD) → (b : Ref sig .tc) → Buf (Elt F) ((c : Thread nD τ).loc b) := fun c b => B5 m hw c b
/-- After the output projection and layer norm. -/
def B6 (c : Dev nD) : Valuation τ sig (Elt F) :=
  Pipeline.withArrays spec2 c (B5 m hw c) fun w => (outnDat (E5 m hw) c).arrAt w cfg2.N
abbrev E6 : (c : Dev nD) → (b : Ref sig .tc) → Buf (Elt F) ((c : Thread nD τ).loc b) := fun c b => B6 m hw c b
/-- At the end. -/
abbrev B7 : Dev nD → Valuation τ sig (Elt F) := fun c => StableHlo.after hostOps3 (B6 m hw c)

/-- A reference the first host stretch does not write is as launched. -/
theorem B1_of (c : Dev nD) (r : Ref sig .tc) (h : r ∉ hostOps0_W) : B1 m c (Proc.devRef .tc r) = B0 m c (Proc.devRef .tc r) :=
  StableHlo.after_of_writes_sub hostOps0 _ hostOps0_writes h
/-- The same for the second, -/
theorem B3_of (c : Dev nD) (r : Ref sig .tc) (h : r ∉ hostOps1_W) : B3 m c (Proc.devRef .tc r) = B2 m c (Proc.devRef .tc r) :=
  StableHlo.after_of_writes_sub hostOps1 _ hostOps1_writes h
/-- the third -/
theorem B5_of (c : Dev nD) (r : Ref sig .tc) (h : r ∉ hostOps2_W) : B5 m hw c (Proc.devRef .tc r) = B4 m hw c (Proc.devRef .tc r) :=
  StableHlo.after_of_writes_sub hostOps2 _ hostOps2_writes h
/-- and the last. -/
theorem B7_of (c : Dev nD) (r : Ref sig .tc) (h : r ∉ hostOps3_W) : B7 m hw c (Proc.devRef .tc r) = B6 m hw c (Proc.devRef .tc r) :=
  StableHlo.after_of_writes_sub hostOps3 _ hostOps3_writes h

/-- After the projection each of its arrays holds what its pipeline leaves. -/
theorem B2_arr (c : Dev nD) (w : Fin cfg0.W) :
    B2 m c (Proc.devRef .tc (Pipeline.arrRef spec0 w)) = (projDat (E1 m) c).arrAt w cfg0.N := by
  unfold B2; exact Pipeline.withArrays_arr spec0 (launch0 (F := F)).win.arr_inj c _ _ w
/-- Every other buffer is as before it. -/
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- A reference that is not its output array keeps its contents across the projection. -/
theorem B2_of (c : Dev nD) (r : Ref sig .tc) (h : ∀ w : Fin cfg0.W, Pipeline.arrRef spec0 w = r → (cfg0.win w).isOut = false) :
    B2 m c (Proc.devRef .tc r) = B1 m c (Proc.devRef .tc r) := by
  by_cases hw' : ∃ w : Fin cfg0.W, Pipeline.arrRef spec0 w = r
  · obtain ⟨w, rfl⟩ := hw'
    exact (B2_arr m c w).trans (((projDat (E1 m) c).arrAt_in w (h w rfl) _).trans (projDat_A (E1 m) c w))
  · exact B2_of_ne m c r fun w e => hw' ⟨w, e⟩
/-- The two facts at the projection's exit, as its segment asks for them: its arrays -/
theorem exitArr0 (c : Dev nD) (w : Fin cfg0.W) : (projDat (E1 m) c).arrAt w cfg0.N = E2 m c (Pipeline.arrRef spec0 w) :=
  (B2_arr m c w).symm
/-- and the rest. -/
theorem exitRest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the attention each of its arrays holds what its pipeline leaves. -/
theorem B4_arr (c : Dev nD) (w : Fin 4) :
    B4 m hw c (Proc.devRef .tc (Pipeline.arrRef spec1 w)) = (attnDat (table m) hw (E3 m) c).arrAt w (cfg1 (table m)).N := by
  unfold B4; exact Pipeline.withArrays_arr spec1 (launch1 (F := F)).win.arr_inj c _ _ w
/-- Every other buffer is as before it. -/
theorem B4_of_ne (c : Dev nD) (b : Ref sig .tc) (hb : ∀ w, Pipeline.arrRef spec1 w ≠ b) :
    B4 m hw c (Proc.devRef .tc b) = B3 m c (Proc.devRef .tc b) := by
  unfold B4; exact Pipeline.withArrays_of_ne spec1 c _ _ b hb
/-- A reference that is not its output array keeps its contents across the attention. -/
theorem B4_of (c : Dev nD) (r : Ref sig .tc) (h : ∀ w : Fin 4, Pipeline.arrRef spec1 w = r → ((cfg1 (table m)).win w).isOut = false) :
    B4 m hw c (Proc.devRef .tc r) = B3 m c (Proc.devRef .tc r) := by
  by_cases hw' : ∃ w : Fin 4, Pipeline.arrRef spec1 w = r
  · obtain ⟨w, rfl⟩ := hw'
    exact (B4_arr m hw c w).trans (((attnDat (table m) hw (E3 m) c).arrAt_in w (h w rfl) _).trans (attnDat_A (table m) hw (E3 m) c w))
  · exact B4_of_ne m hw c r fun w e => hw' ⟨w, e⟩
/-- The two facts at the attention's exit: its arrays -/
theorem exitArr1 (c : Dev nD) (w : Fin 4) : (attnDat (table m) hw (E3 m) c).arrAt w (cfg1 (table m)).N = E4 m hw c (Pipeline.arrRef spec1 w) :=
  (B4_arr m hw c w).symm
/-- and the rest. -/
theorem exitRest1 (c : Dev nD) : ∀ b, b ∉ Finset.univ.image (Pipeline.arrRef spec1) → E4 m hw c b = E3 m c b :=
  fun b hb => B4_of_ne m hw c b fun w e => hb (Finset.mem_image.mpr ⟨w, Finset.mem_univ _, e⟩)

/-- After the output kernel each of its arrays holds what its pipeline leaves. -/
theorem B6_arr (c : Dev nD) (w : Fin cfg2.W) :
    B6 m hw c (Proc.devRef .tc (Pipeline.arrRef spec2 w)) = (outnDat (E5 m hw) c).arrAt w cfg2.N := by
  unfold B6; exact Pipeline.withArrays_arr spec2 (launch2 (F := F)).win.arr_inj c _ _ w
/-- Every other buffer is as before it. -/
theorem B6_of_ne (c : Dev nD) (b : Ref sig .tc) (hb : ∀ w, Pipeline.arrRef spec2 w ≠ b) :
    B6 m hw c (Proc.devRef .tc b) = B5 m hw c (Proc.devRef .tc b) := by
  unfold B6; exact Pipeline.withArrays_of_ne spec2 c _ _ b hb
/-- A reference that is not its output array keeps its contents across the output kernel. -/
theorem B6_of (c : Dev nD) (r : Ref sig .tc) (h : ∀ w : Fin cfg2.W, Pipeline.arrRef spec2 w = r → (cfg2.win w).isOut = false) :
    B6 m hw c (Proc.devRef .tc r) = B5 m hw c (Proc.devRef .tc r) := by
  by_cases hw' : ∃ w : Fin cfg2.W, Pipeline.arrRef spec2 w = r
  · obtain ⟨w, rfl⟩ := hw'
    exact (B6_arr m hw c w).trans (((outnDat (E5 m hw) c).arrAt_in w (h w rfl) _).trans (outnDat_A (E5 m hw) c w))
  · exact B6_of_ne m hw c r fun w e => hw' ⟨w, e⟩
/-- The two facts at the output kernel's exit: its arrays -/
theorem exitArr2 (c : Dev nD) (w : Fin cfg2.W) : (outnDat (E5 m hw) c).arrAt w cfg2.N = E6 m hw c (Pipeline.arrRef spec2 w) :=
  (B6_arr m hw c w).symm
/-- and the rest. -/
theorem exitRest2 (c : Dev nD) : ∀ b, b ∉ Finset.univ.image (Pipeline.arrRef spec2) → E6 m hw c b = E5 m hw c b :=
  fun b hb => B6_of_ne m hw c b fun w e => hb (Finset.mem_image.mpr ⟨w, Finset.mem_univ _, e⟩)

/-! ## The arguments end as launched -/

/-- The program's arguments. -/
abbrev argRefs : List (Ref sig .tc) := [main_arg0, main_arg1, main_arg2, main_arg3, main_arg4, main_arg5, main_arg6, main_arg7, main_arg8, main_arg9]
/-- The first host stretch writes no argument, -/
theorem args_out0 : ∀ a ∈ argRefs, a ∉ hostOps0_W := ListAll.forall_mem_of_all_decide (by decide +kernel)
/-- nor does the second, -/
theorem args_out1 : ∀ a ∈ argRefs, a ∉ hostOps1_W := ListAll.forall_mem_of_all_decide (by decide +kernel)
/-- the third -/
theorem args_out2 : ∀ a ∈ argRefs, a ∉ hostOps2_W := ListAll.forall_mem_of_all_decide (by decide +kernel)
/-- or the last. -/
theorem args_out3 : ∀ a ∈ argRefs, a ∉ hostOps3_W := ListAll.forall_mem_of_all_decide (by decide +kernel)
/-- The projection outputs into no argument, -/
theorem args_in0 : ∀ a ∈ argRefs, ∀ w, Pipeline.arrRef spec0 w = a → (spec0 w).isOut = false :=
  ListAll.forall_mem_of_all_decide (by decide +kernel)
/-- nor does the attention -/
theorem args_in1 : ∀ a ∈ argRefs, ∀ w, Pipeline.arrRef spec1 w = a → (spec1 w).isOut = false :=
  ListAll.forall_mem_of_all_decide (by decide +kernel)
/-- or the output kernel. -/
theorem args_in2 : ∀ a ∈ argRefs, ∀ w, Pipeline.arrRef spec2 w = a → (spec2 w).isOut = false :=
  ListAll.forall_mem_of_all_decide (by decide +kernel)
/-- No host stretch writes an argument and no kernel has one as its output. -/
theorem B7_args (c : Dev nD) (a : Ref sig .tc) (ha : a ∈ argRefs) : B7 m hw c (Proc.devRef .tc a) = m ((c : Thread nD τ).loc a) :=
  (B7_of m hw c a (args_out3 a ha)).trans <| (B6_of m hw c a (args_in2 a ha)).trans <| (B5_of m hw c a (args_out2 a ha)).trans <|
    (B4_of m hw c a (args_in1 a ha)).trans <| (B3_of m c a (args_out1 a ha)).trans <| (B2_of m c a (args_in0 a ha)).trans <|
    (B1_of m c a (args_out0 a ha))
/-- The table reaches the attention as launched. -/
theorem E3_table (c : Dev nD) (k : Fin 1) : E3 m c (pre1.ref k) = (table m).1 k := by
  have hc : c = 0 := Subsingleton.elim _ _
  subst hc
  have hk : k = 0 := Subsingleton.elim _ _
  subst hk
  exact (B3_of m 0 main_arg9 (args_out1 _ (by simp))).trans <| (B2_of m 0 main_arg9 (args_in0 _ (by simp))).trans <|
    (B1_of m 0 main_arg9 (args_out0 _ (by simp)))

/-! ## The pipelines' proof data and the thread state -/

/-- Every pipeline's proof data, each at the contents its kernel is entered with. -/
def pdats : (p : Fin 3) → (c : Dev nD) → Dat τ (Elt F) Unit ℕ (UR sig nD τ) ℕ (Pipeline.pin (pcfgs (F := F)) (adm m) p) c
  | ⟨0, _⟩ => fun c => projDat (E1 m) c
  | ⟨1, _⟩ => fun c => attnDat (table m) hw (E3 m) c
  | ⟨2, _⟩ => fun c => outnDat (E5 m hw) c
/-- No core owes another anything: no level is assigned. -/
abbrev L : GSem nD τ sig → Finset Unit := fun _ => ∅
abbrev lv : GSem nD τ sig → Unit → ℕ := fun _ _ => 0
/-- What rides beside the buffers: the generator register at some state, nothing owed. -/
abbrev R (c : Dev nD) : sProp 𝕄 := iprop((∃ r, prngReg c r) ∗ ∃ W, owes (c : Thread nD τ) (0 : CellTallies nD τ sig Unit) W)
/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.SegProject.lean ====
/- The projection as a segment of the program's run. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Boundary
public import proofs.«01_k».proof.Proof.Project
public import proofs.«01_k».proof.Proof.AttendRegion
public import proofs.«01_k».proof.Proof.OutNorm
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI Idealize.ShloMosaic
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hw : Words m)

set_option backward.isDefEq.respectTransparency.types false in
/-- The projection as a segment: entered from every unscoped buffer at `B1`, left at `B2`. -/
def reg0 : Pipeline.RegionSeg (pcfgs (F := F)) (adm m) (pdats m hw) () defs₀ Variants.none L lv 0 where
  win := (launch0 (F := F)).win.to₀
  block_pos := (launch0 (F := F)).block_pos
  stage_whole := (launch0 (F := F)).stage_whole
  K := PEmpty
  osem k := k.elim
  ho := Pipeline.OwnSemFacts.none _
  hbody c := (projObligation (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) (adm m) (pdats m hw) (launch0 (F := F)).win (launch0 (F := F)).arr_whole c
      ((pdats m hw 0 c).share_full fun _ => rfl) (E1 m c) (projDat_A (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m hw 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (pdats m hw) ((pdats m hw 0 c).share_full fun _ => rfl)
      (E1 m c) (E2 m c) ((pdats m hw 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.SegAttend.lean ====
/- The attention as a segment of the program's run. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Boundary
public import proofs.«01_k».proof.Proof.Project
public import proofs.«01_k».proof.Proof.AttendRegion
public import proofs.«01_k».proof.Proof.OutNorm
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI Idealize.ShloMosaic
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hw : Words m)

set_option backward.isDefEq.respectTransparency.types false in
/-- The attention as a segment: entered from every unscoped buffer at `B3`, left at `B4`. -/
def reg1 : Pipeline.RegionSeg (pcfgs (F := F)) (adm m) (pdats m hw) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := (attnObligation (table m) hw (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m hw c) ∗ R c)
  X c := iprop(∃ r, prngReg c r)
  Y c := iprop((∃ r, prngReg c r) ∗ tableAt (table m) c)
  Z c := Pipeline.unscopedRestP (Ix := Unit) (Name := ℕ) (U := UR sig nD τ) (Lvl := ℕ) pre1 spec1 c (E3 m c)
  hentry c := by
    rw [Pipeline.ownSems0_none]
    have hsplit := Pipeline.arrays_of_unscopedBufs (p := 1) (pcfgs (F := F)) (adm m) (pdats m hw) (launch1 (F := F)).win (launch1 (F := F)).arr_whole c
      ((pdats m hw 1 c).share_full fun _ => rfl) (E3 m c) (attnDat_A (table m) hw (E3 m) c)
    rw [Pipeline.unscopedBufs_held] at hsplit
    have hrest := Pipeline.unscopedRest_split (Ix := Unit) (Name := ℕ) (U := UR sig nD τ) (Lvl := ℕ) (preFacts1) c (E3 m c)
    rw [show (fun k => E3 m c (pre1.ref k)) = (table m).1 from funext (E3_table m c)] at hrest
    iintro ⟨⟨Hub, Hp, HO⟩, -, -⟩
    ihave H := hsplit $$ Hub
    icases H with ⟨Ha, Hrest0⟩
    ihave Hrest1 := (Entails.of_eq hrest) $$ Hrest0
    icases Hrest1 with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 1 c).Φ 0 = iprop(Pipeline.ΦA spec1 c ∗ tableAt (table m) c) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m hw 1 c).Φ (Fin.last _) = iprop(Pipeline.ΦA spec1 c ∗ tableAt (table m) c) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 1) (pcfgs (F := F)) (adm m) (Ix := Unit) (Name := ℕ) (U := UR sig nD τ) (Lvl := ℕ)
      (launch1 (F := F)).win (launch1 (F := F)).arr_whole c (pdats m hw) ((pdats m hw 1 c).share_full fun _ => rfl)
      (E3 m c) (E4 m hw c) ((pdats m hw 1 c).arrAt · (cfg1 (table m)).N) (exitArr1 m hw c) (exitRest1 m hw c)
    rw [Pipeline.unscopedBufs_held] at hjoin
    have hrest := Pipeline.unscopedRest_split (Ix := Unit) (Name := ℕ) (U := UR sig nD τ) (Lvl := ℕ) (preFacts1) c (E3 m c)
    rw [show (fun k => E3 m c (pre1.ref k)) = (table m).1 from funext (E3_table m c)] at hrest
    iintro ⟨Ha, HO, ⟨HY, Ht⟩, Hrest⟩
    imodintro
    isplitl [Ha Hrest Ht]
    · iapply hjoin; isplitl [Ha]; · iexact Ha
      iapply (Entails.of_eq hrest.symm)
      isplitl [Ht]; · iexact Ht
      iexact Hrest
    isplitl [HY]; · iexact HY
    unfold Pipeline.Dat.owesAt Pipeline.owesWithin
    icases HO with ⟨%W, -, HO⟩; iexists W; iexact HO

end Cert.KernelIdeal.Hand

end
-- ==== Proof.SegOut.lean ====
/- The output kernel as a segment of the program's run. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.Boundary
public import proofs.«01_k».proof.Proof.Project
public import proofs.«01_k».proof.Proof.AttendRegion
public import proofs.«01_k».proof.Proof.OutNorm
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI Idealize.ShloMosaic
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hw : Words m)

set_option backward.isDefEq.respectTransparency.types false in
/-- The output kernel as a segment: entered from every unscoped buffer at `B5`, left at `B6`. -/
def reg2 : Pipeline.RegionSeg (pcfgs (F := F)) (adm m) (pdats m hw) () defs₀ Variants.none L lv 2 where
  win := (launch2 (F := F)).win.to₀
  block_pos := (launch2 (F := F)).block_pos
  stage_whole := (launch2 (F := F)).stage_whole
  K := PEmpty
  osem k := k.elim
  ho := Pipeline.OwnSemFacts.none _
  hbody c := (outnObligation (E5 m hw) c).loose
  hwaits := Pipeline.hwaits_of_owed_zero _ _ _ _ L lv 2 fun _ _ => rfl
  pre c := iprop(StableHlo.held (c : Thread nD τ) (Pipeline.ucRefs τ sig) (B5 m hw c) ∗ R c)
  post c := iprop(StableHlo.held (c : Thread nD τ) (Pipeline.ucRefs τ sig) (B6 m hw c) ∗ R c)
  X c := iprop(∃ r, prngReg c r)
  Y c := iprop(∃ r, prngReg c r)
  Z c := Pipeline.unscopedRest (Ix := Unit) (Name := ℕ) (U := UR sig nD τ) (Lvl := ℕ) spec2 c (E5 m hw c)
  hentry c := by
    rw [Pipeline.ownSems0_none]
    have hsplit := Pipeline.arrays_of_unscopedBufs (p := 2) (pcfgs (F := F)) (adm m) (pdats m hw) (launch2 (F := F)).win (launch2 (F := F)).arr_whole c
      ((pdats m hw 2 c).share_full fun _ => rfl) (E5 m hw c) (outnDat_A (E5 m hw) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m hw 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m hw 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) (adm m) (Ix := Unit) (Name := ℕ) (U := UR sig nD τ) (Lvl := ℕ)
      (launch2 (F := F)).win (launch2 (F := F)).arr_whole c (pdats m hw) ((pdats m hw 2 c).share_full fun _ => rfl)
      (E5 m hw c) (E6 m hw c) ((pdats m hw 2 c).arrAt · cfg2.N) (exitArr2 m hw c) (exitRest2 m hw c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/- The whole program run: the contents of the buffers at every boundary between host stretches and kernels, and the theorem
   that every run ends with each buffer at the last boundary's contents and every semaphore at zero. -/
module

public import proofs.«01_k».proof.Proof.Gen.KernelIdeal
public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.SegProject
public import proofs.«01_k».proof.Proof.SegAttend
public import proofs.«01_k».proof.Proof.SegOut
public import proofs.«01_k».proof.Proof.Project
public import proofs.«01_k».proof.Proof.AttendRegion
public import proofs.«01_k».proof.Proof.OutNorm
public import Idealize.ShloMosaic.Lib.Pipeline.FrameBody
public import Idealize.ShloMosaic.Lib.Pipeline.FrameSuffix
public import Idealize.ShloMosaic.Lib.Pipeline.RegionsLoop
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI Idealize.ShloMosaic
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (hw : Words m)

/-! ## The run -/

/-- The program's seven segments in order. -/
abbrev segs : List (Pipeline.Seg (pcfgs (F := F)) (adm m) (pdats m hw) () defs₀ Variants.none L lv) :=
  [ .host (hseg hostOps0 hostOps0_sub hostOps0_fresh (B0 m)),
    .region (reg0 m hw),
    .host (hseg hostOps1 hostOps1_sub hostOps1_fresh (B2 m)),
    .region (reg1 m hw),
    .host (hseg hostOps2 hostOps2_sub hostOps2_fresh (B4 m hw)),
    .region (reg2 m hw),
    .host (hseg hostOps3 hostOps3_sub hostOps3_fresh (B6 m hw)) ]
/-- The program is the run of its segments. -/
theorem main_run (c : Dev nD) : main (F := F) c = Pipeline.Seg.run (segs m hw) := (main_chain c).trans (by chain_rfl)

set_option backward.isDefEq.respectTransparency.types false in
/-- Every run of the program from a memory whose table names key blocks ends, nothing faulting, with each unscoped buffer at
    the last boundary's contents and every semaphore at zero. -/
theorem runs : θ_run defs (onTc (τ := τ) (main (F := F))) ⟨m, fun _ => 0, ρ⟩ (fun r => (∀ c : Dev nD,
      ∀ b ∈ Pipeline.ucRefs τ sig, r.2.mem (((c : Thread nD τ)).1, b) = B7 m hw c b) ∧ r.2.sem = fun _ => 0) :=
  Pipeline.θ_run_regions_kit_sems (pcfgs (F := F)) (adm m) (pdats m hw) () (cellOf_inj (adm m)) emb₁ defs₀ Variants.none L lv m ρ main (segs m hw)
    (fun c Q => by rw [main_run m hw c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m))) (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m))) (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m))) (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c))
    (Tₙ := fun c => iprop(StableHlo.held (c : Thread nD τ) (Pipeline.ucRefs τ sig) (B7 m hw c) ∗ ∃ r, prngReg c r))
    (hch := ⟨fun _ => .rfl, fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m hw c b)
    (hfin := fun c s' => by
      iintro ⟨⟨Hh, -⟩, HSI⟩
      unfold StableHlo.held
      imodintro
      iapply (pointsTo_read_all (Pipeline.ucRefs τ sig) (fun b => (((c : Thread nD τ)).1, b)) (B7 m hw c) s')
      isplitl [Hh] <;> iassumption)
    (hQ := fun s h hz => ⟨h, funext fun g => hz g (.inr (regions_no_unscoped g.2))⟩)

/-- The arguments of one core are as launched in a memory at the last boundary's contents. -/
theorem args_kept (c : Dev nD) (mem : (ℓ : Loc nD τ sig) → Buf (Elt F) ℓ)
    (h : ∀ b ∈ Pipeline.ucRefs τ sig, mem (((c : Thread nD τ)).1, b) = B7 m hw c b) :
      mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8)
      ∧ mem ((c.tc : Thread nD τ).loc main_arg9) = m ((c.tc : Thread nD τ).loc main_arg9) :=
  ⟨(h _ (mem_uc main_arg0 (by decide))).trans (B7_args m hw c main_arg0 (by simp)),
   (h _ (mem_uc main_arg1 (by decide))).trans (B7_args m hw c main_arg1 (by simp)),
   (h _ (mem_uc main_arg2 (by decide))).trans (B7_args m hw c main_arg2 (by simp)),
   (h _ (mem_uc main_arg3 (by decide))).trans (B7_args m hw c main_arg3 (by simp)),
   (h _ (mem_uc main_arg4 (by decide))).trans (B7_args m hw c main_arg4 (by simp)),
   (h _ (mem_uc main_arg5 (by decide))).trans (B7_args m hw c main_arg5 (by simp)),
   (h _ (mem_uc main_arg6 (by decide))).trans (B7_args m hw c main_arg6 (by simp)),
   (h _ (mem_uc main_arg7 (by decide))).trans (B7_args m hw c main_arg7 (by simp)),
   (h _ (mem_uc main_arg8 (by decide))).trans (B7_args m hw c main_arg8 (by simp)),
   (h _ (mem_uc main_arg9 (by decide))).trans (B7_args m hw c main_arg9 (by simp))⟩

include hw in
/-- The frame: the arguments end as launched and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => args_kept m hw c r.2.mem (h.1 c), h.2⟩) (runs m ρ hw)

end Cert.KernelIdeal.Hand

end
-- ==== Proof.Frames.lean ====
/- The frame claims: each of the three programs runs, leaves its arguments unchanged and ends with every semaphore at zero. -/
module

public import proofs.«01_k».proof.Defs
public import proofs.«01_k».proof.Proof.Domain
public import proofs.«01_k».proof.Proof.Run
public import proofs.«01_k».proof.Proof.Printed.Run
public import proofs.«01_k».proof.Proof.Gen.ReferenceIdeal.Run

@[expose] public section

noncomputable section

namespace Cert.Frames

open Idealize.ShloMosaic Idealize.SL.Sem

attribute [local instance] Cert.Kernel.Gen.facts Cert.KernelIdeal.Gen.facts Cert.ReferenceIdeal.Gen.facts Cert.Pre_pre.Gen.facts

/-- The precondition bounds the table of the printed kernel, -/
theorem words_kernel (m : (ℓ : Loc Cert.Kernel.nD Cert.Kernel.τ Cert.Kernel.sig) → Buf (Elt Bits) ℓ) (h : Cert.Pre_Kernel m) :
    Cert.Kernel.Hand.Words m :=
  Cert.Domain.table_lt _ _ _ _ _ _ _ _ _ _ (h 0)

/-- and of the idealized one. -/
theorem words_ideal (m : (ℓ : Loc Cert.KernelIdeal.nD Cert.KernelIdeal.τ Cert.KernelIdeal.sig) → Buf (Elt Ideal) ℓ)
    (h : Cert.Pre_KernelIdeal m) : Cert.KernelIdeal.Hand.Words m :=
  Cert.Domain.table_lt _ _ _ _ _ _ _ _ _ _ (h 0)

/-- The frame of the kernel as printed. -/
theorem kernel : Cert.quiescent_Kernel := fun m g h => Cert.Kernel.Hand.frame m g (words_kernel m h)

/-- The frame of the kernel over the reals. -/
theorem kernelIdeal : Cert.quiescent_KernelIdeal := fun m g h => Cert.KernelIdeal.Hand.frame m g (words_ideal m h)

/-- The frame of the reference: its run leaves the arguments, and a program of host operations touches no semaphore. -/
theorem reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.Frames

end
-- ==== Proof.HostReads.lean ====
/- What the four host stretches leave, read off at the buffers that the kernels and the result use. -/
module

public import proofs.«01_k».proof.Proof.Boundary
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Cert.KernelIdeal.Gen

variable (V : Valuation τ sig (Elt Ideal))

/-- The tokens by row. -/
theorem read_v0 : StableHlo.after hostOps0 V (Proc.devRef .tc main_v0)
    = shapeCast S8192x1024 (V (Proc.devRef .tc main_arg0)) shapeCasts_S2x4096x1024_S8192x1024 := by
  after_reads_simp
  try rfl
/-- The same in half precision: over the reals, the same. -/
theorem read_v1 : StableHlo.after hostOps0 V (Proc.devRef .tc main_v1)
    = truncf (F := Ideal) .bf16 (shapeCast S8192x1024 (V (Proc.devRef .tc main_arg0)) shapeCasts_S2x4096x1024_S8192x1024) bitsLt_bf16_f32 := by
  after_reads_simp
  try rfl
/-- The three weight matrices side by side. -/
theorem read_v3 : StableHlo.after hostOps0 V (Proc.devRef .tc main_v3)
    = truncf (F := Ideal) .bf16 (concatenate S1024x3072 1 [⟨S1024x1024, (V (Proc.devRef .tc main_arg2) : Vec Ideal S1024x1024 .f32)⟩,
        ⟨S1024x1024, (V (Proc.devRef .tc main_arg3) : Vec Ideal S1024x1024 .f32)⟩, ⟨S1024x1024, (V (Proc.devRef .tc main_arg4) : Vec Ideal S1024x1024 .f32)⟩]
        concatenates_S1024x1024_S1024x1024_S1024x1024_S1024x3072_d1) bitsLt_bf16_f32 := by
  after_reads_simp
  try rfl

/-- The projection's columns as part, head and entry, the parts first. -/
def parts (P : Vec Ideal S8192x3072 .bf16) : Vec Ideal S3x2x16x4096x64 .bf16 :=
  transpose S3x2x16x4096x64 [2, 0, 3, 1, 4] (shapeCast S2x4096x3x16x64 P shapeCasts_S8192x3072_S2x4096x3x16x64)
    transposes_S2x4096x3x16x64_S3x2x16x4096x64_2_0_3_1_4

/-- The queries, -/
theorem read_v8 : StableHlo.after hostOps1 V (Proc.devRef .tc main_v8)
    = shapeCast S2x16x4096x64 (extractStridedSlice S1x2x16x4096x64 ![0, 0, 0, 0, 0] (parts (V (Proc.devRef .tc main_v4)))
        slices_S3x2x16x4096x64_S1x2x16x4096x64_0_0_0_0_0) shapeCasts_S1x2x16x4096x64_S2x16x4096x64 := by
  after_reads_simp
  rfl
/-- the keys -/
theorem read_v10 : StableHlo.after hostOps1 V (Proc.devRef .tc main_v10)
    = shapeCast S2x16x4096x64 (extractStridedSlice S1x2x16x4096x64 ![1, 0, 0, 0, 0] (parts (V (Proc.devRef .tc main_v4)))
        slices_S3x2x16x4096x64_S1x2x16x4096x64_1_0_0_0_0) shapeCasts_S1x2x16x4096x64_S2x16x4096x64 := by
  after_reads_simp
  rfl
/-- and the values. -/
theorem read_v12 : StableHlo.after hostOps1 V (Proc.devRef .tc main_v12)
    = shapeCast S2x16x4096x64 (extractStridedSlice S1x2x16x4096x64 ![2, 0, 0, 0, 0] (parts (V (Proc.devRef .tc main_v4)))
        slices_S3x2x16x4096x64_S1x2x16x4096x64_2_0_0_0_0) shapeCasts_S1x2x16x4096x64_S2x16x4096x64 := by
  after_reads_simp
  rfl

/-- The context by row. -/
theorem read_v15 : StableHlo.after hostOps2 V (Proc.devRef .tc main_v15)
    = shapeCast S8192x1024 (transpose S2x4096x16x64 [0, 2, 1, 3] (V (Proc.devRef .tc main_v13)) transposes_S2x16x4096x64_S2x4096x16x64_0_2_1_3)
        shapeCasts_S2x4096x16x64_S8192x1024 := by
  after_reads_simp
  try rfl
/-- The output weights, -/
theorem read_v16 : StableHlo.after hostOps2 V (Proc.devRef .tc main_v16)
    = truncf (F := Ideal) .bf16 (V (Proc.devRef .tc main_arg5)) bitsLt_bf16_f32 := by
  after_reads_simp
  try rfl
/-- the bias, -/
theorem read_v17 : StableHlo.after hostOps2 V (Proc.devRef .tc main_v17)
    = shapeCast S1x1024 (V (Proc.devRef .tc main_arg6)) shapeCasts_S1024_S1x1024 := by
  after_reads_simp
  try rfl
/-- the norm's scale -/
theorem read_v18 : StableHlo.after hostOps2 V (Proc.devRef .tc main_v18)
    = shapeCast S1x1024 (V (Proc.devRef .tc main_arg7)) shapeCasts_S1024_S1x1024 := by
  after_reads_simp
  try rfl
/-- and its shift. -/
theorem read_v19 : StableHlo.after hostOps2 V (Proc.devRef .tc main_v19)
    = shapeCast S1x1024 (V (Proc.devRef .tc main_arg8)) shapeCasts_S1024_S1x1024 := by
  after_reads_simp
  try rfl
/-- The result by token. -/
theorem read_v21 : StableHlo.after hostOps3 V (Proc.devRef .tc main_v21)
    = shapeCast S2x4096x1024 (V (Proc.devRef .tc main_v20)) shapeCasts_S8192x1024_S2x4096x1024 := by
  after_reads_simp
  try rfl

end Cert.KernelIdeal.Hand

end
-- ==== Proof.Layer.lean ====
/- The mathematics of the layer over the extended reals, entry by entry: head projections, scores, softmax attention over a list
   of keys, the keys that a query block sees, the output row and its layer norm. -/
module

public import Idealize.ShloMosaic.Lib.Pointwise
public import Idealize.ShloMosaic.PureOps.Ideal

@[expose] public section

set_option maxRecDepth 16384

noncomputable section

namespace Cert.Layer

open Idealize.ShloMosaic

/-- The tokens' shape, a weight matrix's, a parameter vector's and the block table's. -/
abbrev Tok : Shape := ⟨3, ![2, 4096, 1024]⟩
abbrev Mat : Shape := ⟨2, ![1024, 1024]⟩
abbrev Row : Shape := ⟨1, ![1024]⟩
abbrev Tab : Shape := ⟨3, ![16, 60, 3]⟩

/-- Entry (b, s, n) of a token-by-token product with a weight matrix. -/
def proj (X : FVec Ideal Tok .f32) (W : FVec Ideal Mat .f32) (b : Fin 2) (s : Fin 4096) (n : Fin 1024) : EReal :=
  ∑ k : Fin 1024, X (ix3 b s k) * W (ix2 k n)

/-- Column `64 h + d` of a weight matrix: head `h`'s column `d`. -/
def col (h : Fin 16) (d : Fin 64) : Fin 1024 := ⟨h.val * 64 + d.val, by omega⟩

/-- The projection by head. -/
def head (X : FVec Ideal Tok .f32) (W : FVec Ideal Mat .f32) (b : Fin 2) (h : Fin 16) (s : Fin 4096) (d : Fin 64) : EReal :=
  proj X W b s (col h d)

/-- A query's scaled product with a key. -/
def score (q k : Fin 64 → EReal) : EReal := (∑ d : Fin 64, q d * k d) * Ideal.ofBits .f32 0x3E000000#32

/-- The largest of the scores, from minus infinity on. -/
def top {n : ℕ} (sc : Fin n → EReal) : EReal := Finset.univ.fold max (Ideal.ofBits .f32 0xFF800000#32) sc

/-- Softmax attention: the values weighted by the normalized exponentials of the scores less their largest. -/
def attend {n : ℕ} (sc v : Fin n → EReal) : EReal :=
  ∑ k, Ideal.div (Ideal.exp (sc k - top sc)) (∑ l, Ideal.exp (sc l - top sc)) * v k

/-- The position of the `k`-th key that middle block `m` of head `h` sees: three blocks of the band, the first block, the last
    block, then the three blocks that the table names. -/
def keyAt (tab : IVec Tab 32) (h : Fin 16) (m : Fin 60) (k : Fin 512) : Fin 4096 :=
  if h0 : k.val < 192 then ⟨(m.val + 1) * 64 + k.val, by omega⟩
  else if h1 : k.val < 256 then ⟨k.val - 192, by omega⟩
  else if h2 : k.val < 320 then ⟨4032 + (k.val - 256), by omega⟩
  else ⟨((tab (ix3 h m ⟨(k.val - 320) / 64, by omega⟩)).toNat * 64 + (k.val - 320) % 64) % 4096, by omega⟩

/-- The first 192 positions are the band's, -/
theorem keyAt_band (tab : IVec Tab 32) (h : Fin 16) (m : Fin 60) (k : Fin 512) (hk : k.val < 192) :
    (keyAt tab h m k).val = (m.val + 1) * 64 + k.val := by
  unfold keyAt; rw [dif_pos hk]
/-- the next 64 the first block's, -/
theorem keyAt_first (tab : IVec Tab 32) (h : Fin 16) (m : Fin 60) (k : Fin 512) (h0 : ¬ k.val < 192) (hk : k.val < 256) :
    (keyAt tab h m k).val = k.val - 192 := by
  unfold keyAt; rw [dif_neg h0, dif_pos hk]
/-- the next 64 the last block's. -/
theorem keyAt_last (tab : IVec Tab 32) (h : Fin 16) (m : Fin 60) (k : Fin 512) (h0 : ¬ k.val < 256) (hk : k.val < 320) :
    (keyAt tab h m k).val = 4032 + (k.val - 256) := by
  unfold keyAt; rw [dif_neg (by omega), dif_neg h0, dif_pos hk]
/-- Where the table's word is below 64, the position is in the block that it names. -/
theorem keyAt_table (tab : IVec Tab 32) (h : Fin 16) (m : Fin 60) (k : Fin 512) (j : Fin 3) (h0 : ¬ k.val < 320)
    (hj : j.val = (k.val - 320) / 64) (ht : (tab (ix3 h m j)).toNat < 64) :
    (keyAt tab h m k).val = (tab (ix3 h m j)).toNat * 64 + (k.val - 320) % 64 := by
  have e : (⟨(k.val - 320) / 64, by omega⟩ : Fin 3) = j := Fin.ext hj.symm
  unfold keyAt
  rw [dif_neg (by omega), dif_neg (by omega), dif_neg h0]
  show ((tab (ix3 h m ⟨(k.val - 320) / 64, _⟩)).toNat * 64 + (k.val - 320) % 64) % 4096 = _
  rw [e]
  omega

/-- A row of the attention's context over given heads: the first two and last two blocks attend to every position, the others
    to their listed keys. -/
def context (Q K V : Fin 2 → Fin 16 → Fin 4096 → Fin 64 → EReal) (tab : IVec Tab 32) (b : Fin 2) (h : Fin 16) (s : Fin 4096)
    (d : Fin 64) : EReal :=
  if hs : 128 ≤ s.val ∧ s.val < 3968 then
    attend (fun k : Fin 512 => score (Q b h s) (K b h (keyAt tab h ⟨(s.val - 128) / 64, by omega⟩ k)))
      fun k => V b h (keyAt tab h ⟨(s.val - 128) / 64, by omega⟩ k) d
  else attend (fun k : Fin 4096 => score (Q b h s) (K b h k)) fun k => V b h k d

/-- Entry (b, s, n) of the output projection with bias and residual. -/
def outRow (C : Fin 2 → Fin 16 → Fin 4096 → Fin 64 → EReal) (W : FVec Ideal Mat .f32) (bo : FVec Ideal Row .f32)
    (X : FVec Ideal Tok .f32) (b : Fin 2) (s : Fin 4096) (n : Fin 1024) : EReal :=
  (∑ j : Fin 1024, C b ⟨j.val / 64, by omega⟩ s ⟨j.val % 64, by omega⟩ * W (ix2 j n)) + bo (ix1 n) + X (ix3 b s n)

/-- The mean of a row. -/
def mean (x : Fin 1024 → EReal) : EReal := Ideal.div (∑ n, x n) (Ideal.ofBits .f32 0x44800000#32)
/-- Its variance. -/
def variance (x : Fin 1024 → EReal) : EReal :=
  Ideal.div (∑ n, (x n - mean x) * (x n - mean x)) (Ideal.ofBits .f32 0x44800000#32)

/-- The layer norm of a row, dividing by the root. -/
def norm (x : Fin 1024 → EReal) (g b : FVec Ideal Row .f32) (n : Fin 1024) : EReal :=
  Ideal.div (g (ix1 n) * (x n - mean x)) (Ideal.sqrt (variance x + Ideal.ofBits .f32 0x2B8CBCCC#32)) + b (ix1 n)

/-- The layer's result. -/
def layer (X : FVec Ideal Tok .f32) (Wq Wk Wv Wo : FVec Ideal Mat .f32) (bo g be : FVec Ideal Row .f32) (tab : IVec Tab 32)
    (b : Fin 2) (s : Fin 4096) (n : Fin 1024) : EReal :=
  norm (outRow (context (head X Wq) (head X Wk) (head X Wv) tab) Wo bo X b s) g be n

/-! ## Dividing by the root and multiplying by its reciprocal -/

/-- A square is not negative. -/
theorem square_nonneg (x : EReal) : 0 ≤ x * x := by
  rcases le_total 0 x with h | h
  · exact EReal.mul_nonneg h h
  · have := EReal.mul_nonneg (a := -x) (b := -x) (by simpa using h) (by simpa using h)
    simpa using this

/-- The word of 1024. -/
theorem word1024 : Ideal.ofBits .f32 0x44800000#32 = ((1024 : ℝ) : EReal) := by
  simp [Ideal.ofBits, Ideal.ieee, -EReal.coe_mul]; norm_num

/-- The word of the norm's small constant is a positive number. -/
theorem eps_pos : ∃ e : ℝ, 0 < e ∧ Ideal.ofBits .f32 0x2B8CBCCC#32 = (e : EReal) := by
  refine ⟨_, ?_, by simp [Ideal.ofBits, Ideal.ieee]; rfl⟩
  positivity

/-- A variance is not negative. -/
theorem variance_nonneg (x : Fin 1024 → EReal) : 0 ≤ variance x := by
  unfold variance
  rw [word1024, Ideal.div_coe (by norm_num)]
  exact EReal.mul_nonneg (Finset.sum_nonneg fun n _ => square_nonneg _) (by norm_num)

/-- Where the argument is not negative and has a positive number added, dividing by the root is multiplying by the reciprocal root. -/
theorem div_sqrt (a v : EReal) (hv : 0 ≤ v) :
    Ideal.div a (Ideal.sqrt (v + Ideal.ofBits .f32 0x2B8CBCCC#32)) = a * Ideal.rsqrt (v + Ideal.ofBits .f32 0x2B8CBCCC#32) := by
  obtain ⟨e, he, hw⟩ := eps_pos
  rw [hw]
  induction v with
  | bot => simp at hv
  | top =>
    have h1 : Ideal.sqrt (⊤ : EReal) = ⊤ := rfl
    have h2 : Ideal.rsqrt (⊤ : EReal) = 0 := rfl
    rw [EReal.top_add_coe, h1, h2, Ideal.div, if_neg (by simp), EReal.inv_top]
  | coe r =>
    have hr : (0 : ℝ) ≤ r := by exact_mod_cast hv
    have hp : 0 < r + e := by linarith
    have hs : Real.sqrt (r + e) ≠ 0 := (Real.sqrt_pos.mpr hp).ne'
    rw [← EReal.coe_add]
    have h1 : Ideal.sqrt ((r + e : ℝ) : EReal) = ((Real.sqrt (r + e) : ℝ) : EReal) := if_neg (not_lt.mpr hp.le)
    have h2 : Ideal.rsqrt ((r + e : ℝ) : EReal) = (((Real.sqrt (r + e))⁻¹ : ℝ) : EReal) := by
      show (if r + e < 0 then ⊥ else if r + e = 0 then ⊤ else _) = _
      rw [if_neg (not_lt.mpr hp.le), if_neg hp.ne']
    rw [h1, h2, Ideal.div_coe hs, one_div]

end Cert.Layer

end
-- ==== Proof.HostValue.lean ====
/- The host stretches at an index, and what they do with an array's entries. -/
module

public import proofs.«01_k».proof.Proof.HostReads
public import proofs.«01_k».proof.Proof.Layer
public import Idealize.ShloMosaic.Lib.Pointwise

@[expose] public section

set_option maxRecDepth 16384

noncomputable section

namespace Cert.KernelIdeal.Hand

open Idealize.ShloMosaic Idealize.ShloMosaic.TcCoe
open Cert.KernelIdeal.Gen Cert.Layer

/-- Token (b, s)'s row. -/
def tokRow (b : Fin 2) (s : Fin 4096) : Fin 8192 := ⟨b.val * 4096 + s.val, by omega⟩

/-- The tokens by row. -/
theorem rows_at (X : Vec Ideal S2x4096x1024 .f32) (b : Fin 2) (s : Fin 4096) (k : Fin 1024) :
    shapeCast S8192x1024 X shapeCasts_S2x4096x1024_S8192x1024 (ix2 (tokRow b s) k) = X (ix3 b s k) := by
  pointwise [tokRow]

/-- Column `n` of part `p` of the fused weights. -/
def fusedCol (p : Fin 3) (n : Fin 1024) : Fin 3072 := ⟨p.val * 1024 + n.val, by omega⟩

/-- The three weight matrices side by side. -/
def fused (A B C : Vec Ideal S1024x1024 .f32) : Vec Ideal S1024x3072 .f32 :=
  concatenate S1024x3072 1 [⟨S1024x1024, A⟩, ⟨S1024x1024, B⟩, ⟨S1024x1024, C⟩]
    concatenates_S1024x1024_S1024x1024_S1024x1024_S1024x3072_d1

/-- A column of the first part is the first matrix's, -/
theorem fused_query (A B C : Vec Ideal S1024x1024 .f32) (k n : Fin 1024) : fused A B C (ix2 k (fusedCol 0 n)) = A (ix2 k n) := by
  pointwise [fused, fusedCol]
/-- of the second the second's, -/
theorem fused_key (A B C : Vec Ideal S1024x1024 .f32) (k n : Fin 1024) : fused A B C (ix2 k (fusedCol 1 n)) = B (ix2 k n) := by
  pointwise [fused, fusedCol]
/-- of the third the third's. -/
theorem fused_value (A B C : Vec Ideal S1024x1024 .f32) (k n : Fin 1024) : fused A B C (ix2 k (fusedCol 2 n)) = C (ix2 k n) := by
  pointwise [fused, fusedCol]
  rw [dif_neg (by omega), dif_neg (by omega)]
  exact congrArg (fun z => C (ix2 k z)) (Fin.ext (by simp only; omega))

/-- An entry of the queries by head is the projection's at the token's row and the head's column of the first part; -/
theorem query_at (P : Vec Ideal S8192x3072 .bf16) (b : Fin 2) (h : Fin 16) (s : Fin 4096) (d : Fin 64) :
    shapeCast S2x16x4096x64 (extractStridedSlice S1x2x16x4096x64 ![0, 0, 0, 0, 0] (parts P)
        slices_S3x2x16x4096x64_S1x2x16x4096x64_0_0_0_0_0) shapeCasts_S1x2x16x4096x64_S2x16x4096x64 (ix4 b h s d)
      = P (ix2 (tokRow b s) (fusedCol 0 (col h d))) := by
  pointwise [parts, tokRow, fusedCol, col]
/-- of the keys, of the second; -/
theorem key_at (P : Vec Ideal S8192x3072 .bf16) (b : Fin 2) (h : Fin 16) (s : Fin 4096) (d : Fin 64) :
    shapeCast S2x16x4096x64 (extractStridedSlice S1x2x16x4096x64 ![1, 0, 0, 0, 0] (parts P)
        slices_S3x2x16x4096x64_S1x2x16x4096x64_1_0_0_0_0) shapeCasts_S1x2x16x4096x64_S2x16x4096x64 (ix4 b h s d)
      = P (ix2 (tokRow b s) (fusedCol 1 (col h d))) := by
  pointwise [parts, tokRow, fusedCol, col]
  exact congrArg (fun z => P (ix2 _ z)) (Fin.ext (by simp only; omega))
/-- of the values, of the third. -/
theorem value_at (P : Vec Ideal S8192x3072 .bf16) (b : Fin 2) (h : Fin 16) (s : Fin 4096) (d : Fin 64) :
    shapeCast S2x16x4096x64 (extractStridedSlice S1x2x16x4096x64 ![2, 0, 0, 0, 0] (parts P)
        slices_S3x2x16x4096x64_S1x2x16x4096x64_2_0_0_0_0) shapeCasts_S1x2x16x4096x64_S2x16x4096x64 (ix4 b h s d)
      = P (ix2 (tokRow b s) (fusedCol 2 (col h d))) := by
  pointwise [parts, tokRow, fusedCol, col]
  exact congrArg (fun z => P (ix2 _ z)) (Fin.ext (by simp only; omega))

/-- A token's row of the context, its heads joined. -/
theorem ctx_at (C : Vec Ideal S2x16x4096x64 .bf16) (b : Fin 2) (s : Fin 4096) (j : Fin 1024) :
    shapeCast S8192x1024 (transpose S2x4096x16x64 [0, 2, 1, 3] C transposes_S2x16x4096x64_S2x4096x16x64_0_2_1_3)
        shapeCasts_S2x4096x16x64_S8192x1024 (ix2 (tokRow b s) j) = C (ix4 b ⟨j.val / 64, by omega⟩ s ⟨j.val % 64, by omega⟩) := by
  pointwise [tokRow]

/-- The result by token. -/
theorem result_at (R : Vec Ideal S8192x1024 .f32) (b : Fin 2) (s : Fin 4096) (n : Fin 1024) :
    shapeCast S2x4096x1024 R shapeCasts_S8192x1024_S2x4096x1024 (ix3 b s n) = R (ix2 (tokRow b s) n) := by
  pointwise [tokRow]

/-- A parameter vector as a row. -/
theorem vec_at (R : Vec Ideal S1024 .f32) (n : Fin 1024) :
    shapeCast S1x1024 R shapeCasts_S1024_S1x1024 (ix2 0 n) = R (Idealize.ShloMosaic.ix1 n) := by
  pointwise

end Cert.KernelIdeal.Hand

end
-- ==== Proof.ProjectValue.lean ====
/- The array that the projection kernel leaves, over the extended reals: the product of its two operands. -/
module

public import proofs.«01_k».proof.Proof.Project
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen

/-- The whole product: 8192 rows by 3072 columns. -/
def projAll (X : FVec Ideal S8192x1024 .bf16) (W : FVec Ideal S1024x3072 .bf16) : FVec Ideal S8192x3072 .bf16 :=
  fun i => ∑ k : Fin 1024, X (ix2 (i 0) k) * W (ix2 k (i 1))

/-- Which block each window holds at a grid point. -/
theorem projIdx : ∀ t : Fin cfg0.N, win0_0.index t = ![(grid0.coords t 0).val, 0]
    ∧ win0_1.index t = ![0, (grid0.coords t 1).val]
    ∧ win0_2.index t = ![(grid0.coords t 0).val, (grid0.coords t 1).val] :=
  (by decide +kernel : ∀ t : Fin grid0.N, _)

/-- An entry of a block is the sum of products along the row and the column. -/
theorem projPay_at (x : FVec Ideal S512x1024 .bf16) (w : FVec Ideal S1024x512 .bf16) (r c : Fin 512) :
    k0_pay1 x w (ix2 r c) = ∑ k : Fin 1024, x (ix2 r k) * w (ix2 k c) := by
  pointwise [k0_pay1]

variable (V : (c : Dev nD) → (b : Ref sig .tc) → Buf (Elt Ideal) ((c : Thread nD τ).loc b))

/-- The projection's array after the run. -/
theorem projFinal (c : Dev nD) : (projDat V c).arrAt 2 cfg0.N = projAll (V c main_v1) (V c main_v3) := by
  refine (projDat V c).arrAt_eq_of_covers 2 _ (by decide +kernel) fun t _ y => ?_
  blk_simp
  rw [projAfter_2]
  unfold projOut
  frame_out
  idx_vars y
  refine (projPay_at _ _ y0 y1).trans ?_
  unfold projAll
  blk_point [projBlk, projIdx t]

end Cert.KernelIdeal.Hand

end
-- ==== Proof.AttendPay.lean ====
/- What the attention kernel's vector arithmetic computes, entry by entry over the extended reals. -/
module

public import proofs.«01_k».proof.Proof.Gen.KernelIdeal
public import proofs.«01_k».proof.Proof.Gen.KernelIdeal.Skeleton
public import proofs.«01_k».proof.Proof.Layer
public import Idealize.ShloMosaic.Lib.Pointwise

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen Cert.Layer

/-! ## The middle blocks: 64 queries against 512 listed keys -/

/-- The scaled scores of 64 queries against 512 keys. -/
def midScores (q : FVec Ideal S64x64 .bf16) (K : FVec Ideal S512x64 .bf16) : FVec Ideal S64x512 .f32 :=
  mulf (matmul dot_S64x64_S512x64_S64x512_1_1_0_0_n_n none q K (constant S64x512 .f32 0x00000000#32))
    (broadcast S64x512 (Scalar.ofBits .f32 0x3E000000#32))

/-- The row-wise softmax of scores. -/
def midProbs (x : FVec Ideal S64x512 .f32) : FVec Ideal S64x512 .bf16 :=
  have e : FVec Ideal S64x512 .f32 := exp (subf x (broadcastTo S64x512 (shapeCast S64x1
    (multiReduction .maximumf [1] S64 x 0xFF800000#32 reduces_S64x512_S64 (.inl rfl) rfl) shapeCasts_S64_S64x1) broadcasts_S64x1_S64x512))
  truncf .bf16 (divf e (broadcastTo S64x512 (shapeCast S64x1
    (multiReduction .add [1] S64 e 0x00000000#32 reduces_S64x512_S64 (.inl rfl) rfl) shapeCasts_S64_S64x1) broadcasts_S64x1_S64x512)) bitsLt_bf16_f32

/-- Probabilities applied to 512 value rows. -/
def midMix (p : FVec Ideal S64x512 .bf16) (v : FVec Ideal S512x64 .bf16) : FVec Ideal S1x1x64x64 .bf16 :=
  shapeCast S1x1x64x64 (truncf .bf16 (matmul dot_S64x512_S512x64_S64x64_1_0_0_1_n_n none p v (constant S64x64 .f32 0x00000000#32)) bitsLt_bf16_f32)
    shapeCasts_S64x64_S1x1x64x64

/-- Six pieces of rows stacked: a band of 192 and five blocks of 64. -/
def stack (a : FVec Ideal S192x64 .bf16) (b c d e f : FVec Ideal S64x64 .bf16) : FVec Ideal S512x64 .bf16 :=
  concatenate S512x64 0 [⟨S192x64, a⟩, ⟨S64x64, b⟩, ⟨S64x64, c⟩, ⟨S64x64, d⟩, ⟨S64x64, e⟩, ⟨S64x64, f⟩]
    concatenates_S192x64_S64x64_S64x64_S64x64_S64x64_S64x64_S512x64_d0

/-- A score is the scaled product of its query and its key. -/
theorem midScores_at (q : FVec Ideal S64x64 .bf16) (K : FVec Ideal S512x64 .bf16) (r : Fin 64) (k : Fin 512) :
    midScores q K (ix2 r k) = score (fun d => q (ix2 r d)) (fun d => K (ix2 k d)) := by
  pointwise [midScores, score]

/-- A probability is the exponential of the score less the row's largest, over the row's sum of these. -/
theorem midProbs_at (x : FVec Ideal S64x512 .f32) (r : Fin 64) (k : Fin 512) :
    midProbs x (ix2 r k) = Ideal.div (Ideal.exp (x (ix2 r k) - top fun l => x (ix2 r l)))
      (∑ l : Fin 512, Ideal.exp (x (ix2 r l) - top fun l => x (ix2 r l))) := by
  pointwise [midProbs, top]

/-- A mixed entry is the sum of the values by their probabilities. -/
theorem midMix_at (p : FVec Ideal S64x512 .bf16) (v : FVec Ideal S512x64 .bf16) (r d : Fin 64) :
    midMix p v (ix4 0 0 r d) = ∑ k : Fin 512, p (ix2 r k) * v (ix2 k d) := by
  pointwise [midMix]

/-- A row of the stack is a row of the piece it falls in. -/
theorem stack_at (a : FVec Ideal S192x64 .bf16) (b c d e f : FVec Ideal S64x64 .bf16) (k : Fin 512) (n : Fin 64) :
    stack a b c d e f (ix2 k n) = if h : k.val < 192 then a (ix2 ⟨k.val, h⟩ n)
      else if h1 : k.val < 256 then b (ix2 ⟨k.val - 192, by omega⟩ n)
      else if h2 : k.val < 320 then c (ix2 ⟨k.val - 256, by omega⟩ n)
      else if h3 : k.val < 384 then d (ix2 ⟨k.val - 320, by omega⟩ n)
      else if h4 : k.val < 448 then e (ix2 ⟨k.val - 384, by omega⟩ n)
      else f (ix2 ⟨k.val - 448, by omega⟩ n) := by
  pointwise [stack]
  by_cases h : k.val < 192
  · rw [dif_pos h, dif_pos h]
  by_cases h1 : k.val < 256
  · rw [dif_neg h, dif_neg h, dif_pos h1, dif_pos (by omega)]
  by_cases h2 : k.val < 320
  · rw [dif_neg h, dif_neg h, dif_neg h1, dif_pos h2, dif_neg (by omega), dif_pos (by omega)]
    exact congrArg (fun z => c (ix2 z n)) (Fin.ext (by simp only; omega))
  by_cases h3 : k.val < 384
  · rw [dif_neg h, dif_neg h, dif_neg h1, dif_neg h2, dif_pos h3, dif_neg (by omega), dif_neg (by omega), dif_pos (by omega)]
    exact congrArg (fun z => d (ix2 z n)) (Fin.ext (by simp only; omega))
  by_cases h4 : k.val < 448
  · rw [dif_neg h, dif_neg h, dif_neg h1, dif_neg h2, dif_neg h3, dif_pos h4, dif_neg (by omega), dif_neg (by omega), dif_neg (by omega),
      dif_pos (by omega)]
    exact congrArg (fun z => e (ix2 z n)) (Fin.ext (by simp only; omega))
  · rw [dif_neg h, dif_neg h, dif_neg h1, dif_neg h2, dif_neg h3, dif_neg h4, dif_neg (by omega), dif_neg (by omega), dif_neg (by omega),
      dif_neg (by omega)]
    exact congrArg (fun z => f (ix2 z n)) (Fin.ext (by simp only; omega))

/-- What a trip computes, as softmax attention over its 512 stacked keys. -/
theorem mid_at (q : FVec Ideal S64x64 .bf16) (K V : FVec Ideal S512x64 .bf16) (r d : Fin 64) :
    midMix (midProbs (midScores q K)) V (ix4 0 0 r d)
      = attend (fun k : Fin 512 => score (fun d => q (ix2 r d)) (fun d => K (ix2 k d))) fun k => V (ix2 k d) := by
  rw [midMix_at]
  unfold attend
  simp only [midProbs_at, midScores_at]

/-- The printed probabilities are the softmax of the scores against the stacked keys. -/
theorem pay8_eq (q : FVec Ideal S64x64 .bf16) (a : FVec Ideal S192x64 .bf16) (b c d : FVec Ideal S64x64 .bf16)
    (e f : FVec Ideal S1x1x64x64 .bf16) : k1_pay8 (F := Ideal) q a b c d e f
      = midProbs (midScores q (stack a b c d (shapeCast S64x64 e shapeCasts_S1x1x64x64_S64x64) (shapeCast S64x64 f shapeCasts_S1x1x64x64_S64x64))) := rfl

/-- The printed mix is the probabilities applied to the stacked values. -/
theorem pay2_eq (p : FVec Ideal S64x512 .bf16) (a : FVec Ideal S192x64 .bf16) (b c d : FVec Ideal S64x64 .bf16)
    (e f : FVec Ideal S1x1x64x64 .bf16) : k1_pay2 (F := Ideal) p a b c d e f
      = midMix p (stack a b c d (shapeCast S64x64 e shapeCasts_S1x1x64x64_S64x64) (shapeCast S64x64 f shapeCasts_S1x1x64x64_S64x64)) := rfl

/-! ## The first and last 128 rows: 256 queries against every key -/

/-- The scaled scores of 256 queries against 4096 keys. -/
def edgeScores (q : FVec Ideal S256x64 .bf16) (K : FVec Ideal S4096x64 .bf16) : FVec Ideal S256x4096 .f32 :=
  mulf (matmul dot_S256x64_S4096x64_S256x4096_1_1_0_0_n_n none q K (constant S256x4096 .f32 0x00000000#32))
    (broadcast S256x4096 (Scalar.ofBits .f32 0x3E000000#32))

/-- The row-wise softmax of scores. -/
def edgeProbs (x : FVec Ideal S256x4096 .f32) : FVec Ideal S256x4096 .bf16 :=
  have e : FVec Ideal S256x4096 .f32 := exp (subf x (broadcastTo S256x4096 (shapeCast S256x1
    (multiReduction .maximumf [1] S256 x 0xFF800000#32 reduces_S256x4096_S256 (.inl rfl) rfl) shapeCasts_S256_S256x1) broadcasts_S256x1_S256x4096))
  truncf .bf16 (divf e (broadcastTo S256x4096 (shapeCast S256x1
    (multiReduction .add [1] S256 e 0x00000000#32 reduces_S256x4096_S256 (.inl rfl) rfl) shapeCasts_S256_S256x1) broadcasts_S256x1_S256x4096)) bitsLt_bf16_f32

/-- Probabilities applied to 4096 value rows. -/
def edgeMix (p : FVec Ideal S256x4096 .bf16) (v : FVec Ideal S4096x64 .bf16) : FVec Ideal S256x64 .f32 :=
  matmul dot_S256x4096_S4096x64_S256x64_1_0_0_1_n_n none p v (constant S256x64 .f32 0x00000000#32)

/-- A score is the scaled product of its query and its key. -/
theorem edgeScores_at (q : FVec Ideal S256x64 .bf16) (K : FVec Ideal S4096x64 .bf16) (r : Fin 256) (k : Fin 4096) :
    edgeScores q K (ix2 r k) = score (fun d => q (ix2 r d)) (fun d => K (ix2 k d)) := by
  pointwise [edgeScores, score]

/-- A probability is the exponential of the score less the row's largest, over the row's sum of these. -/
theorem edgeProbs_at (x : FVec Ideal S256x4096 .f32) (r : Fin 256) (k : Fin 4096) :
    edgeProbs x (ix2 r k) = Ideal.div (Ideal.exp (x (ix2 r k) - top fun l => x (ix2 r l)))
      (∑ l : Fin 4096, Ideal.exp (x (ix2 r l) - top fun l => x (ix2 r l))) := by
  pointwise [edgeProbs, top]

/-- A mixed entry is the sum of the values by their probabilities. -/
theorem edgeMix_at (p : FVec Ideal S256x4096 .bf16) (v : FVec Ideal S4096x64 .bf16) (r : Fin 256) (d : Fin 64) :
    edgeMix p v (ix2 r d) = ∑ k : Fin 4096, p (ix2 r k) * v (ix2 k d) := by
  pointwise [edgeMix]

/-- The edge rows as softmax attention over all keys. -/
theorem edge_at (q : FVec Ideal S256x64 .bf16) (K V : FVec Ideal S4096x64 .bf16) (r : Fin 256) (d : Fin 64) :
    edgeMix (edgeProbs (edgeScores q K)) V (ix2 r d)
      = attend (fun k : Fin 4096 => score (fun d => q (ix2 r d)) (fun d => K (ix2 k d))) fun k => V (ix2 k d) := by
  rw [edgeMix_at]
  unfold attend
  simp only [edgeProbs_at, edgeScores_at]

/-- The two pieces of 128 query rows stacked. -/
def stackEdge (a b : FVec Ideal S1x1x128x64 .bf16) : FVec Ideal S256x64 .bf16 :=
  concatenate S256x64 0 [⟨S128x64, shapeCast S128x64 a shapeCasts_S1x1x128x64_S128x64⟩, ⟨S128x64, shapeCast S128x64 b shapeCasts_S1x1x128x64_S128x64⟩]
    concatenates_S128x64_S128x64_S256x64_d0

/-- A row of the stack is a row of the first piece or of the second. -/
theorem stackEdge_at (a b : FVec Ideal S1x1x128x64 .bf16) (r : Fin 256) (d : Fin 64) :
    stackEdge a b (ix2 r d) = if h : r.val < 128 then a (ix4 0 0 ⟨r.val, h⟩ d) else b (ix4 0 0 ⟨r.val - 128, by omega⟩ d) := by
  pointwise [stackEdge]

/-- The printed edge product is the mix of the softmax of these scores. -/
theorem pay13_eq (a b : FVec Ideal S1x1x128x64 .bf16) (K V : FVec Ideal S1x1x4096x64 .bf16) : k1_pay13 (F := Ideal) a b K V
      = edgeMix (edgeProbs (edgeScores (stackEdge a b) (shapeCast S4096x64 K shapeCasts_S1x1x4096x64_S4096x64)))
        (shapeCast S4096x64 V shapeCasts_S1x1x4096x64_S4096x64) := rfl

/-- The printed edge product, as softmax attention over all keys. -/
theorem pay13_at (a b : FVec Ideal S1x1x128x64 .bf16) (K V : FVec Ideal S1x1x4096x64 .bf16) (r : Fin 256) (d : Fin 64) :
    k1_pay13 (F := Ideal) a b K V (ix2 r d)
      = attend (fun k : Fin 4096 => score (fun d => stackEdge a b (ix2 r d)) (fun d => K (ix4 0 0 k d))) fun k => V (ix4 0 0 k d) := by
  rw [pay13_eq, edge_at]
  have hk : ∀ (X : FVec Ideal S1x1x4096x64 .bf16) (k : Fin 4096) (d : Fin 64),
      shapeCast S4096x64 X shapeCasts_S1x1x4096x64_S4096x64 (ix2 k d) = X (ix4 0 0 k d) := fun X k d => by pointwise
  simp only [hk]

/-- The first 128 rows, -/
theorem pay14_at (a b : FVec Ideal S1x1x128x64 .bf16) (K V : FVec Ideal S1x1x4096x64 .bf16) (r : Fin 128) (d : Fin 64) :
    k1_pay14 (F := Ideal) a b K V (ix4 0 0 r d)
      = attend (fun k : Fin 4096 => score (fun d => a (ix4 0 0 r d)) (fun d => K (ix4 0 0 k d))) fun k => V (ix4 0 0 k d) := by
  have e : k1_pay14 (F := Ideal) a b K V (ix4 0 0 r d) = k1_pay13 (F := Ideal) a b K V (ix2 ⟨r.val, by omega⟩ d) := by pointwise [k1_pay14]
  rw [e, pay13_at]
  have hr : ∀ d, stackEdge a b (ix2 (⟨r.val, by omega⟩ : Fin 256) d) = a (ix4 0 0 r d) := fun d => by
    rw [stackEdge_at, dif_pos r.isLt]
  simp only [hr]

/-- and the last. -/
theorem pay15_at (a b : FVec Ideal S1x1x128x64 .bf16) (K V : FVec Ideal S1x1x4096x64 .bf16) (r : Fin 128) (d : Fin 64) :
    k1_pay1 (F := Ideal) (k1_pay15 (F := Ideal) a b K V) (ix4 0 0 r d)
      = attend (fun k : Fin 4096 => score (fun d => b (ix4 0 0 r d)) (fun d => K (ix4 0 0 k d))) fun k => V (ix4 0 0 k d) := by
  have e : k1_pay1 (F := Ideal) (k1_pay15 (F := Ideal) a b K V) (ix4 0 0 r d) = k1_pay13 (F := Ideal) a b K V (ix2 ⟨128 + r.val, by omega⟩ d) := by
    pointwise [k1_pay1, k1_pay15]
  rw [e, pay13_at]
  have hr : ∀ d, stackEdge a b (ix2 (⟨128 + r.val, by omega⟩ : Fin 256) d) = b (ix4 0 0 r d) := fun d => by
    rw [stackEdge_at, dif_neg (by simp)]
    refine congrArg (fun z => b (ix4 0 0 z d)) (Fin.ext ?_)
    simp
  simp only [hr]

end Cert.KernelIdeal.Hand

end
-- ==== Proof.AttendBlock.lean ====
/- The block that one (batch, head) point of the attention kernel leaves, over the extended reals: the context of the layer. -/
module

public import proofs.«01_k».proof.Proof.Attend
public import proofs.«01_k».proof.Proof.AttendPay
public import Idealize.ShloMosaic.Lib.Pointwise

@[expose] public section

set_option maxRecDepth 16384

noncomputable section

namespace Cert.KernelIdeal.Hand

open Idealize.ShloMosaic Idealize.ShloMosaic.TcCoe Idealize.SL.Sem
open Cert.KernelIdeal.Gen Cert.Layer

/-! ## Where the loads of a trip start -/

/-- The trip's queries, -/
theorem off1_eq (k : Fin k1_t1_loop.trips) : k1_off1 k = ![0, 0, (k.val + 2) * 64, 0] := by
  have : ∀ k : Fin k1_t1_loop.trips, k1_off1 k = ![0, 0, (k.val + 2) * 64, 0] := by decide +kernel
  exact this k
/-- the band's keys -/
theorem off5_eq (k : Fin k1_t1_loop.trips) : k1_off5 k = ![0, 0, (k.val + 1) * 64, 0] := by
  have : ∀ k : Fin k1_t1_loop.trips, k1_off5 k = ![0, 0, (k.val + 1) * 64, 0] := by decide +kernel
  exact this k
/-- and its values; -/
theorem off9_eq (k : Fin k1_t1_loop.trips) : k1_off9 k = ![0, 0, (k.val + 1) * 64, 0] := off5_eq k
/-- the first word of the table for the trip, -/
theorem off2_eq (i : grid1.Coords) (k : Fin k1_t1_loop.trips) : k1_off2 i k = ![(i 1).val, k.val, 0] := by
  have : ∀ (i : grid1.Coords) (k : Fin k1_t1_loop.trips), k1_off2 i k = ![(i 1).val, k.val, 0] := by decide +kernel
  exact this i k
/-- the second -/
theorem off3_eq (i : grid1.Coords) (k : Fin k1_t1_loop.trips) : k1_off3 i k = ![(i 1).val, k.val, 1] := by
  have : ∀ (i : grid1.Coords) (k : Fin k1_t1_loop.trips), k1_off3 i k = ![(i 1).val, k.val, 1] := by decide +kernel
  exact this i k
/-- and the third. -/
theorem off4_eq (i : grid1.Coords) (k : Fin k1_t1_loop.trips) : k1_off4 i k = ![(i 1).val, k.val, 2] := by
  have : ∀ (i : grid1.Coords) (k : Fin k1_t1_loop.trips), k1_off4 i k = ![(i 1).val, k.val, 2] := by decide +kernel
  exact this i k

/-- A load of rows from row `o` on reads row `o + r` at its row `r`. -/
theorem ld_rows (n : ℕ) (x : Vec Ideal S1x1x4096x64 .bf16) (off : Fin 4 → ℕ) (inb : ∀ a, off a + (![1, 1, n, 64] : Fin 4 → ℕ) a ≤ S1x1x4096x64.size a)
    (o : ℕ) (e : off = ![0, 0, o, 0]) (r : Fin n) (d : Fin 64) (s : Fin 4096) (hs : s.val = o + r.val) :
    View.ld (Val := Elt Ideal) (S := S1x1x4096x64) (e' := .bf16) x (Rect.unit (s := S1x1x4096x64) off ![1, 1, n, 64] inb)
      (ix4 (n0 := 1) (n1 := 1) (n2 := n) (n3 := 64) 0 0 r d) = x (ix4 0 0 s d) := by
  subst e
  refine congrArg x (funext fun a => Fin.ext ?_)
  fin_cases a
  · simp [ix4]
  · simp [ix4]
  · simp [ix4, hs]
  · simp [ix4]

/-- A word is the table's entry at its offsets. -/
theorem wordAt_eq (x : Vec Ideal S16x60x3 .i32) (off : Fin 3 → ℕ) (inb : ∀ a, off a + S1x1x1.size a ≤ S16x60x3.size a)
    (h : Fin 16) (m : Fin 60) (j : Fin 3) (e : off = ![h.val, m.val, j.val]) : wordAt x off inb = x (ix3 h m j) := by
  subst e
  refine congrArg x (funext fun a => Fin.ext ?_)
  fin_cases a <;> simp [ix3, Shape.Idx.first]

/-- A trip's block: its rows attend to the keys that the layer lists for it. -/
theorem midBlock_at (x2 : Vec Ideal S16x60x3 .i32) (hx2 : ∀ y, (x2 y : BitVec 32).toNat < 64) (x3 x4 x5 : Vec Ideal S1x1x4096x64 .bf16)
    (h : Fin 16) (k : Fin k1_t1_loop.trips) (m : Fin 60) (hm : m.val = k.val) (w1 w2 w3 : BitVec 32)
    (e1 : w1 = x2 (ix3 h m 0)) (e2 : w2 = x2 (ix3 h m 1)) (e3 : w3 = x2 (ix3 h m 2))
    (h1 : k1_chk1 w1) (h2 : k1_chk2 w2) (h3 : k1_chk3 w3) (r d : Fin 64) (s : Fin 4096) (hs : s.val = 128 + m.val * 64 + r.val) :
    midBlock x3 x4 x5 k w1 w2 w3 h1 h2 h3 (ix4 (n0 := 1) (n1 := 1) (n2 := 64) (n3 := 64) 0 0 r d)
      = attend (fun j : Fin 512 => score (fun d => x3 (ix4 0 0 s d)) (fun d => x4 (ix4 0 0 (keyAt x2 h m j) d)))
          fun j => x5 (ix4 0 0 (keyAt x2 h m j) d) := by
  have b1 := hx2 (ix3 h m 0)
  have b2 := hx2 (ix3 h m 1)
  have b3 := hx2 (ix3 h m 2)
  rw [← e1] at b1; rw [← e2] at b2; rw [← e3] at b3
  unfold midBlock
  rw [pay2_eq, pay8_eq, mid_at]
  have sq : ∀ (X : Vec Ideal S1x1x64x64 .bf16) (a b : Fin 64),
      (shapeCast S64x64 X shapeCasts_S1x1x64x64_S64x64 : FVec Ideal S64x64 .bf16) (ix2 a b) = X (ix4 0 0 a b) := fun X a b => by pointwise
  have sq3 : ∀ (X : Vec Ideal S1x1x192x64 .bf16) (a : Fin 192) (b : Fin 64),
      (shapeCast S192x64 X shapeCasts_S1x1x192x64_S192x64 : FVec Ideal S192x64 .bf16) (ix2 a b) = X (ix4 0 0 a b) := fun X a b => by pointwise
  have hq : ∀ d, k1_pay3 (F := Ideal) (View.ld x3 (Rect.unit (s := S1x1x4096x64) (k1_off1 k) S1x1x64x64.size (k1_off1_inb k))) (ix2 r d)
      = x3 (ix4 0 0 s d) := fun d =>
    (sq _ r d).trans (ld_rows 64 x3 _ _ _ (off1_eq k) r d s (by omega))
  have hst : ∀ (X : Vec Ideal S1x1x4096x64 .bf16) (j : Fin 512) (d : Fin 64),
      stack (shapeCast S192x64 (View.ld X (Rect.unit (s := S1x1x4096x64) (k1_off5 k) S1x1x192x64.size (k1_off5_inb k))) shapeCasts_S1x1x192x64_S192x64)
        (shapeCast S64x64 (View.ld X qRow0) shapeCasts_S1x1x64x64_S64x64) (shapeCast S64x64 (View.ld X qRow63) shapeCasts_S1x1x64x64_S64x64)
        (shapeCast S64x64 (View.ld X (Rect.unit (s := S1x1x4096x64) (k1_off6 w1) S1x1x64x64.size (k1_off6_inb w1 h1))) shapeCasts_S1x1x64x64_S64x64)
        (shapeCast S64x64 (View.ld X (Rect.unit (s := S1x1x4096x64) (k1_off7 w2) S1x1x64x64.size (k1_off7_inb w2 h2))) shapeCasts_S1x1x64x64_S64x64)
        (shapeCast S64x64 (View.ld X (Rect.unit (s := S1x1x4096x64) (k1_off8 w3) S1x1x64x64.size (k1_off8_inb w3 h3))) shapeCasts_S1x1x64x64_S64x64)
        (ix2 j d) = X (ix4 0 0 (keyAt x2 h m j) d) := fun X j d => by
    rw [stack_at]
    have hj := j.isLt
    split
    next c0 => exact (sq3 _ _ d).trans (ld_rows 192 X _ _ _ (off5_eq k) _ d _ (by rw [keyAt_band _ _ _ _ c0, hm]))
    next c0 =>
    split
    next c1 => exact (sq _ _ d).trans (ld_rows 64 X _ _ 0 rfl _ d _ (by rw [keyAt_first _ _ _ _ c0 c1]; simp))
    next c1 =>
    split
    next c2 => exact (sq _ _ d).trans (ld_rows 64 X _ _ 4032 rfl _ d _ (by rw [keyAt_last _ _ _ _ c1 c2]))
    next c2 =>
    split
    next c3 =>
      refine (sq _ _ d).trans (ld_rows 64 X _ _ _ (off6_eq w1 b1) _ d _ ?_)
      rw [keyAt_table x2 h m j 0 c2 (by show 0 = _; omega) (by rw [← e1]; exact b1), ← e1]; simp only; omega
    next c3 =>
    split
    next c4 =>
      refine (sq _ _ d).trans (ld_rows 64 X _ _ _ (off7_eq w2 b2) _ d _ ?_)
      rw [keyAt_table x2 h m j 1 c2 (by show 1 = _; omega) (by rw [← e2]; exact b2), ← e2]; simp only; omega
    next c4 =>
      refine (sq _ _ d).trans (ld_rows 64 X _ _ _ (off8_eq w3 b3) _ d _ ?_)
      rw [keyAt_table x2 h m j 2 c2 (by show 2 = _; omega) (by rw [← e3]; exact b3), ← e3]; simp only; omega
  simp only [hq]
  have hK : ∀ j d, _ = x4 (ix4 0 0 (keyAt x2 h m j) d) := hst x4
  have hV : ∀ j d, _ = x5 (ix4 0 0 (keyAt x2 h m j) d) := hst x5
  exact congrArg₂ attend (funext fun j => congrArg₂ score rfl (funext fun d => hK j d)) (funext fun j => hV j d)

/-- The whole block: the context of the layer for one batch and head. -/
theorem attnBlock_at (i : grid1.Coords) (x2 : Vec Ideal S16x60x3 .i32) (hx2 : ∀ y, (x2 y : BitVec 32).toNat < 64)
    (x3 x4 x5 : Vec Ideal S1x1x4096x64 .bf16) (Q K V : Fin 2 → Fin 16 → Fin 4096 → Fin 64 → EReal) (b : Fin 2) (h : Fin 16)
    (hh : h.val = (i 1).val) (eQ : ∀ s d, x3 (ix4 0 0 s d) = Q b h s d) (eK : ∀ s d, x4 (ix4 0 0 s d) = K b h s d)
    (eV : ∀ s d, x5 (ix4 0 0 s d) = V b h s d) (s : Fin 4096) (d : Fin 64) :
    attnBlock i x2 x3 x4 x5 hx2 (ix4 0 0 s d) = context Q K V x2 b h s d := by
  have ea : ∀ s, (fun d => x3 (ix4 0 0 s d)) = Q b h s := fun s => funext (eQ s)
  have eb : ∀ s, (fun d => x4 (ix4 0 0 s d)) = K b h s := fun s => funext (eK s)
  unfold context attnBlock
  by_cases h1 : 3968 ≤ s.val
  · rw [dif_pos (show 3968 ≤ ((ix4 0 0 s d : S1x1x4096x64.Idx) 2).val from h1), dif_neg (by omega)]
    refine (pay15_at _ _ _ _ ⟨s.val - 3968, by omega⟩ d).trans ?_
    refine congrArg₂ attend (funext fun k => congrArg₂ score (funext fun d => ?_) (funext fun d => ?_)) (funext fun k => ?_)
    · exact (ld_rows 128 x3 _ _ 3968 rfl _ d s (by simp only; omega)).trans (eQ s d)
    · exact (ld_rows 4096 x4 _ _ 0 rfl k d k (by omega)).trans (eK k d)
    · exact (ld_rows 4096 x5 _ _ 0 rfl k d k (by omega)).trans (eV k d)
  rw [dif_neg (show ¬ 3968 ≤ ((ix4 0 0 s d : S1x1x4096x64.Idx) 2).val from h1)]
  by_cases h2 : s.val < 128
  · rw [dif_pos (show ((ix4 0 0 s d : S1x1x4096x64.Idx) 2).val < 128 from h2), dif_neg (by omega)]
    refine (pay14_at _ _ _ _ ⟨s.val, by omega⟩ d).trans ?_
    refine congrArg₂ attend (funext fun k => congrArg₂ score (funext fun d => ?_) (funext fun d => ?_)) (funext fun k => ?_)
    · exact (ld_rows 128 x3 _ _ 0 rfl _ d s (by simp)).trans (eQ s d)
    · exact (ld_rows 4096 x4 _ _ 0 rfl k d k (by omega)).trans (eK k d)
    · exact (ld_rows 4096 x5 _ _ 0 rfl k d k (by omega)).trans (eV k d)
  rw [dif_neg (show ¬ ((ix4 0 0 s d : S1x1x4096x64.Idx) 2).val < 128 from h2), dif_pos (by omega)]
  have hk : (tripOf s.val h1).val = (s.val - 128) / 64 := rfl
  refine (midBlock_at x2 hx2 x3 x4 x5 h (tripOf s.val h1) ⟨(s.val - 128) / 64, by omega⟩ rfl _ _ _
    (wordAt_eq x2 _ _ _ _ 0 (by rw [hh]; exact off2_eq i _)) (wordAt_eq x2 _ _ _ _ 1 (by rw [hh]; exact off3_eq i _))
    (wordAt_eq x2 _ _ _ _ 2 (by rw [hh]; exact off4_eq i _)) _ _ _ ⟨(s.val - 128) % 64, by omega⟩ d s (by simp only; omega)).trans ?_
  simp only [ea, eb, eV]

end Cert.KernelIdeal.Hand

end
-- ==== Proof.AttendValue.lean ====
/- The array that the attention kernel leaves, over the extended reals: the context of every batch, head and row. -/
module

public import proofs.«01_k».proof.Proof.AttendRegion
public import proofs.«01_k».proof.Proof.AttendBlock
public import Idealize.ShloMosaic.Lib.Pipeline.ValueKit
public import Idealize.ShloMosaic.Lib.Pipeline.Covers

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen Cert.Layer

variable (a1 : (pcfg1 (F := Ideal)).Adm) (hw : ∀ y : S16x60x3.Idx, ((a1.1 0 : Vec Ideal S16x60x3 .i32) y : BitVec 32).toNat < 64)
variable (V : (c : Dev nD) → (b : Ref sig .tc) → Buf (Elt Ideal) ((c : Thread nD τ).loc b))

/-- The blocks sit at the point's batch and head. -/
theorem attnMap : ∀ i : grid1.Coords, cc1_transform_0 i = ![(i 0).val, (i 1).val, 0, 0] := by decide +kernel

/-- That is so of the queries' window, -/
theorem attnIdx0 (t : Fin (cfg1 a1).N) : ((cfg1 a1).win 0).index t = ![((cfg1 a1).grid.coords t 0).val, ((cfg1 a1).grid.coords t 1).val, 0, 0] := attnMap _
/-- the keys', -/
theorem attnIdx1 (t : Fin (cfg1 a1).N) : ((cfg1 a1).win 1).index t = ![((cfg1 a1).grid.coords t 0).val, ((cfg1 a1).grid.coords t 1).val, 0, 0] := attnMap _
/-- the values' -/
theorem attnIdx2 (t : Fin (cfg1 a1).N) : ((cfg1 a1).win 2).index t = ![((cfg1 a1).grid.coords t 0).val, ((cfg1 a1).grid.coords t 1).val, 0, 0] := attnMap _
/-- and the output's. -/
theorem attnIdx3 (t : Fin (cfg1 a1).N) : ((cfg1 a1).win 3).index t = ![((cfg1 a1).grid.coords t 0).val, ((cfg1 a1).grid.coords t 1).val, 0, 0] := attnMap _

/-- The context as an array. -/
def attnAll (Q K W : FVec Ideal S2x16x4096x64 .bf16) (tab : IVec S16x60x3 32) : FVec Ideal S2x16x4096x64 .bf16 := fun i =>
  context (fun b h s d => Q (ix4 b h s d)) (fun b h s d => K (ix4 b h s d)) (fun b h s d => W (ix4 b h s d)) tab (i 0) (i 1) (i 2) (i 3)

/-- The output blocks cover the array. -/
theorem attnCovers : ((cfg1 a1).win (3 : Fin 4)).Covers := by
  refine Pipeline.Window.covers_of_indexMap_surj (w := (cfg1 a1).win (3 : Fin 4)) rfl (show ∀ a, 0 < S1x1x4096x64.size a by decide) fun β => ?_
  have hb : ∀ β : (a : Fin 4) → Fin ((S2x16x4096x64.size a + S1x1x4096x64.size a - 1) / S1x1x4096x64.size a), ∃ i : grid1.Coords, ∀ a, cc1_transform_3 i a = β a := by
    decide +kernel
  exact hb β

/-- Where row `s`, column `d` of the point's block sits. -/
theorem attnEmb (t : Fin (cfg1 a1).N) (b : Fin 2) (h : Fin 16) (hb : b.val = ((cfg1 a1).grid.coords t 0).val)
    (hh : h.val = ((cfg1 a1).grid.coords t 1).val) (s : Fin 4096) (d : Fin 64) :
    (((cfg1 a1).win (3 : Fin 4)).blk t).view.emb (ix4 0 0 s d : S1x1x4096x64.Idx) = (ix4 b h s d : S2x16x4096x64.Idx) := by
  have key : ∀ a : Fin 4, cc1_transform_3 ((cfg1 a1).grid.coords t) a * S1x1x4096x64.size a + 1 * ((ix4 0 0 s d : S1x1x4096x64.Idx) a).val
      = ((ix4 b h s d : S2x16x4096x64.Idx) a).val := fun a => by
   rw [show cc1_transform_3 ((cfg1 a1).grid.coords t) = _ from attnMap _]
   fin_cases a
   · simp [S1x1x4096x64, ix4, hb]
   · simp [S1x1x4096x64, ix4, hh]
   · simp [S1x1x4096x64, ix4]
   · simp [S1x1x4096x64, ix4]
  exact funext fun a => Fin.ext (key a)

/-- A row of a point's block is a row of the array: of the queries, -/
theorem attnRead0 (c : Dev nD) (t : Fin (cfg1 a1).N) (b : Fin 2) (h : Fin 16) (hb : b.val = ((cfg1 a1).grid.coords t 0).val)
    (hh : h.val = ((cfg1 a1).grid.coords t 1).val) (s : Fin 4096) (d : Fin 64) :
    attnBlk a1 V c 0 t (ix4 0 0 s d : S1x1x4096x64.Idx) = (V c main_v8 : FVec Ideal S2x16x4096x64 .bf16) (ix4 b h s d) :=
  congrArg (V c main_v8 : FVec Ideal S2x16x4096x64 .bf16) (attnEmb a1 t b h hb hh s d)
/-- the keys -/
theorem attnRead1 (c : Dev nD) (t : Fin (cfg1 a1).N) (b : Fin 2) (h : Fin 16) (hb : b.val = ((cfg1 a1).grid.coords t 0).val)
    (hh : h.val = ((cfg1 a1).grid.coords t 1).val) (s : Fin 4096) (d : Fin 64) :
    attnBlk a1 V c 1 t (ix4 0 0 s d : S1x1x4096x64.Idx) = (V c main_v10 : FVec Ideal S2x16x4096x64 .bf16) (ix4 b h s d) :=
  congrArg (V c main_v10 : FVec Ideal S2x16x4096x64 .bf16) (attnEmb a1 t b h hb hh s d)
/-- and the values. -/
theorem attnRead2 (c : Dev nD) (t : Fin (cfg1 a1).N) (b : Fin 2) (h : Fin 16) (hb : b.val = ((cfg1 a1).grid.coords t 0).val)
    (hh : h.val = ((cfg1 a1).grid.coords t 1).val) (s : Fin 4096) (d : Fin 64) :
    attnBlk a1 V c 2 t (ix4 0 0 s d : S1x1x4096x64.Idx) = (V c main_v12 : FVec Ideal S2x16x4096x64 .bf16) (ix4 b h s d) :=
  congrArg (V c main_v12 : FVec Ideal S2x16x4096x64 .bf16) (attnEmb a1 t b h hb hh s d)

/-- A point leaves the array's block. -/
theorem attnPointValue (c : Dev nD) (t : Fin (cfg1 a1).N) (y : S1x1x4096x64.Idx) : attnOut a1 hw V c t y
    = attnAll (V c main_v8) (V c main_v10) (V c main_v12) (a1.1 0 : Vec Ideal S16x60x3 .i32) ((((cfg1 a1).win (3 : Fin 4)).blk t).view.emb y) := by
  obtain ⟨s, d, rfl⟩ : ∃ (s : Fin 4096) (d : Fin 64), y = ix4 0 0 s d :=
    by
    idx_vars y
    exact ⟨_, _, by rw [Subsingleton.elim y0 0, Subsingleton.elim y1 0]⟩
  have hb : (⟨((cfg1 a1).grid.coords t 0).val, ((cfg1 a1).grid.coords t 0).isLt⟩ : Fin 2).val = ((cfg1 a1).grid.coords t 0).val := rfl
  have hh : (⟨((cfg1 a1).grid.coords t 1).val, ((cfg1 a1).grid.coords t 1).isLt⟩ : Fin 16).val = ((cfg1 a1).grid.coords t 1).val := rfl
  rw [attnEmb a1 t _ _ hb hh s d]
  unfold attnOut
  exact attnBlock_at _ _ hw _ _ _ _ _ _ _ _ hh (attnRead0 a1 V c t _ _ hb hh) (attnRead1 a1 V c t _ _ hb hh) (attnRead2 a1 V c t _ _ hb hh) s d

/-- The attention's array after the run. -/
theorem attnFinal (c : Dev nD) : (attnDat a1 hw V c).arrAt (3 : Fin 4) (cfg1 a1).N
    = attnAll (V c main_v8) (V c main_v10) (V c main_v12) (a1.1 0 : Vec Ideal S16x60x3 .i32) := by
  refine (attnDat a1 hw V c).arrAt_eq_of_covers (3 : Fin 4) _ (attnCovers a1) fun t _ y => ?_
  blk_simp
  rw [attnAfter_3]
  exact attnPointValue a1 hw V c t y

end Cert.KernelIdeal.Hand

end
-- ==== Proof.OutNormValue.lean ====
/- The array that the last kernel leaves, over the extended reals: output projection, bias, residual and layer norm, row by row. -/
module

public import proofs.«01_k».proof.Proof.OutNorm
public import proofs.«01_k».proof.Proof.Layer
public import Idealize.ShloMosaic.Lib.Pipeline.ValueKit
public import Idealize.ShloMosaic.Lib.Pointwise

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal.Gen Cert.Layer

/-- A row before the norm: the context row times the weights, plus bias, plus residual. -/
def preNorm {n : ℕ} (C : FVec Ideal ⟨2, ![n, 1024]⟩ .bf16) (W : FVec Ideal S1024x1024 .bf16) (bo : FVec Ideal S1x1024 .f32)
    (X : FVec Ideal ⟨2, ![n, 1024]⟩ .f32) (r : Fin n) (j : Fin 1024) : EReal :=
  (∑ k : Fin 1024, C (ix2 r k) * W (ix2 k j)) + bo (ix2 0 j) + X (ix2 r j)

/-- A row of the result, multiplying by the reciprocal root. -/
def normRow {n : ℕ} (C : FVec Ideal ⟨2, ![n, 1024]⟩ .bf16) (W : FVec Ideal S1024x1024 .bf16) (X : FVec Ideal ⟨2, ![n, 1024]⟩ .f32)
    (bo g b : FVec Ideal S1x1024 .f32) (r : Fin n) (j : Fin 1024) : EReal :=
  g (ix2 0 j) * (preNorm C W bo X r j - mean (preNorm C W bo X r))
    * Ideal.rsqrt (variance (preNorm C W bo X r) + Ideal.ofBits .f32 0x2B8CBCCC#32) + b (ix2 0 j)

/-- The whole array. -/
def outnAll (C : FVec Ideal S8192x1024 .bf16) (W : FVec Ideal S1024x1024 .bf16) (X : FVec Ideal S8192x1024 .f32)
    (bo g b : FVec Ideal S1x1024 .f32) : FVec Ideal S8192x1024 .f32 := fun i => normRow C W X bo g b (i 0) (i 1)

/-- Which block each window holds at a grid point. -/
theorem outnIdx : ∀ t : Fin cfg2.N, win2_0.index t = ![(grid2.coords t 0).val, 0]
    ∧ win2_1.index t = ![0, 0] ∧ win2_2.index t = ![(grid2.coords t 0).val, 0]
    ∧ win2_3.index t = ![0, 0] ∧ win2_4.index t = ![0, 0] ∧ win2_5.index t = ![0, 0]
    ∧ win2_6.index t = ![(grid2.coords t 0).val, 0] :=
  (by decide +kernel : ∀ t : Fin grid2.N, _)

/-- An entry of a block. -/
theorem outnPay_at (C : FVec Ideal S512x1024 .bf16) (W : FVec Ideal S1024x1024 .bf16) (bo : FVec Ideal S1x1024 .f32)
    (X : FVec Ideal S512x1024 .f32) (g b : FVec Ideal S1x1024 .f32) (r : Fin 512) (j : Fin 1024) :
    k2_pay1 (F := Ideal) C W bo X g b (ix2 r j) = normRow C W X bo g b r j := by
  pointwise [k2_pay1, normRow, preNorm, mean, variance]

variable (V : (c : Dev nD) → (b : Ref sig .tc) → Buf (Elt Ideal) ((c : Thread nD τ).loc b))

/-- The last kernel's array after the run. -/
theorem outnFinal (c : Dev nD) : (outnDat V c).arrAt 6 cfg2.N
    = outnAll (V c main_v15) (V c main_v16) (V c main_v0) (V c main_v17) (V c main_v18) (V c main_v19) := by
  refine (outnDat V c).arrAt_eq_of_covers 6 _ (by decide +kernel) fun t _ y => ?_
  blk_simp
  rw [outnAfter_6]
  unfold outnOut
  frame_out
  idx_vars y
  refine (outnPay_at _ _ _ _ _ _ y0 y1).trans ?_
  unfold outnAll normRow mean variance preNorm
  blk_point [outnBlk, outnIdx t]

end Cert.KernelIdeal.Hand

end
-- ==== Proof.KernelValue.lean ====
/- The kernel's result is the layer's mathematics of its arguments. -/
module

public import proofs.«01_k».proof.Proof.HostValue
public import proofs.«01_k».proof.Proof.ProjectValue
public import proofs.«01_k».proof.Proof.AttendValue
public import proofs.«01_k».proof.Proof.OutNormValue

@[expose] public section

set_option maxRecDepth 16384

noncomputable section

namespace Cert.KernelIdeal.Hand

open Idealize.ShloMosaic Idealize.ShloMosaic.TcCoe
open Cert.KernelIdeal.Gen Cert.Layer

variable (m : (ℓ : Loc nD τ sig) → Buf (Elt Ideal) ℓ) (hw : Words m) (c : Dev nD)

/-- What argument `a` holds at launch. -/
abbrev arg (a : Ref sig .tc) : Buf (Elt Ideal) ((c : Thread nD τ).loc a) := m ((c : Thread nD τ).loc a)

/-! ## Up to the projection -/

/-- The projection's array. -/
theorem proj_array : (B2 m c (Proc.devRef .tc main_v4) : Vec Ideal S8192x3072 .bf16)
    = projAll (shapeCast S8192x1024 (arg m c main_arg0) shapeCasts_S2x4096x1024_S8192x1024)
        (fused (arg m c main_arg2) (arg m c main_arg3) (arg m c main_arg4)) := by
  refine (B2_arr m c 2).trans ((projFinal (E1 m) c).trans ?_)
  have e1 : E1 m c main_v1 = _ := read_v1 (B0 m c)
  have e3 : E1 m c main_v3 = _ := read_v3 (B0 m c)
  rw [e1, e3]
  rfl

/-- Its entry at a token's row and a part's column. -/
theorem proj_at (W : Vec Ideal S1024x3072 .f32) (w : Vec Ideal S1024x1024 .f32) (p : Fin 3)
    (hp : ∀ k n, W (ix2 k (fusedCol p n)) = w (ix2 k n)) (X : Vec Ideal S2x4096x1024 .f32) (b : Fin 2) (h : Fin 16) (s : Fin 4096) (d : Fin 64) :
    projAll (shapeCast S8192x1024 X shapeCasts_S2x4096x1024_S8192x1024) W (ix2 (tokRow b s) (fusedCol p (col h d))) = head X w b h s d := by
  unfold projAll head proj
  refine Finset.sum_congr rfl fun k _ => ?_
  exact congrArg₂ (· * ·) (rows_at X b s k) (hp k (col h d))

/-! ## Up to the attention -/

/-- The queries by head at the attention's entry, -/
theorem queries (b : Fin 2) (h : Fin 16) (s : Fin 4096) (d : Fin 64) :
    (E3 m c main_v8 : Vec Ideal S2x16x4096x64 .bf16) (ix4 b h s d) = head (arg m c main_arg0) (arg m c main_arg2) b h s d := by
  have e : E3 m c main_v8 = _ := read_v8 (B2 m c)
  rw [e, query_at, proj_array]
  exact proj_at _ _ 0 (fused_query _ _ _) _ b h s d
/-- the keys -/
theorem keys (b : Fin 2) (h : Fin 16) (s : Fin 4096) (d : Fin 64) :
    (E3 m c main_v10 : Vec Ideal S2x16x4096x64 .bf16) (ix4 b h s d) = head (arg m c main_arg0) (arg m c main_arg3) b h s d := by
  have e : E3 m c main_v10 = _ := read_v10 (B2 m c)
  rw [e, key_at, proj_array]
  exact proj_at _ _ 1 (fused_key _ _ _) _ b h s d
/-- and the values. -/
theorem values (b : Fin 2) (h : Fin 16) (s : Fin 4096) (d : Fin 64) :
    (E3 m c main_v12 : Vec Ideal S2x16x4096x64 .bf16) (ix4 b h s d) = head (arg m c main_arg0) (arg m c main_arg4) b h s d := by
  have e : E3 m c main_v12 = _ := read_v12 (B2 m c)
  rw [e, value_at, proj_array]
  exact proj_at _ _ 2 (fused_value _ _ _) _ b h s d

/-- The context's rows over the arguments. -/
abbrev ctx : Fin 2 → Fin 16 → Fin 4096 → Fin 64 → EReal :=
  context (head (arg m c main_arg0) (arg m c main_arg2)) (head (arg m c main_arg0) (arg m c main_arg3))
    (head (arg m c main_arg0) (arg m c main_arg4)) (arg m c main_arg9)

/-- The attention's array. -/
theorem ctx_array (b : Fin 2) (h : Fin 16) (s : Fin 4096) (d : Fin 64) :
    (B4 m hw c (Proc.devRef .tc main_v13) : Vec Ideal S2x16x4096x64 .bf16) (ix4 b h s d) = ctx m c b h s d := by
  have e : (B4 m hw c (Proc.devRef .tc main_v13) : Vec Ideal S2x16x4096x64 .bf16) = _ :=
    (B4_arr m hw c 3).trans (attnFinal (table m) hw (E3 m) c)
  have hc : c = 0 := Subsingleton.elim _ _
  have q : (fun b h s d => (E3 m c main_v8 : Vec Ideal S2x16x4096x64 .bf16) (ix4 b h s d)) = head (arg m c main_arg0) (arg m c main_arg2) := by
    funext b h s d; exact queries m c b h s d
  have k : (fun b h s d => (E3 m c main_v10 : Vec Ideal S2x16x4096x64 .bf16) (ix4 b h s d)) = head (arg m c main_arg0) (arg m c main_arg3) := by
    funext b h s d; exact keys m c b h s d
  have v : (fun b h s d => (E3 m c main_v12 : Vec Ideal S2x16x4096x64 .bf16) (ix4 b h s d)) = head (arg m c main_arg0) (arg m c main_arg4) := by
    funext b h s d; exact values m c b h s d
  have t : ((table m).1 0 : Vec Ideal S16x60x3 .i32) = arg m c main_arg9 := by subst hc; rfl
  rw [e]
  show context (fun b h s d => (E3 m c main_v8 : Vec Ideal S2x16x4096x64 .bf16) (ix4 b h s d))
    (fun b h s d => (E3 m c main_v10 : Vec Ideal S2x16x4096x64 .bf16) (ix4 b h s d))
    (fun b h s d => (E3 m c main_v12 : Vec Ideal S2x16x4096x64 .bf16) (ix4 b h s d)) ((table m).1 0 : Vec Ideal S16x60x3 .i32) b h s d = _
  rw [q, k, v, t]

/-! ## The result -/

/-- An argument is unchanged before the third host stretch. -/
theorem B4_arg (a : Ref sig .tc) (ha : a ∈ argRefs) : B4 m hw c (Proc.devRef .tc a) = arg m c a :=
  (B4_of m hw c a (args_in1 a ha)).trans <| (B3_of m c a (args_out1 a ha)).trans <| (B2_of m c a (args_in0 a ha)).trans <|
    (B1_of m c a (args_out0 a ha))

/-- The tokens by row are unchanged up to the last kernel. -/
theorem rows_kept : E5 m hw c main_v0 = shapeCast S8192x1024 (arg m c main_arg0) shapeCasts_S2x4096x1024_S8192x1024 :=
  (B5_of m hw c main_v0 (by decide +kernel)).trans <| (B4_of_ne m hw c main_v0 (by decide +kernel)).trans <|
    (B3_of m c main_v0 (by decide +kernel)).trans <| (B2_of m c main_v0 (by decide +kernel)).trans (read_v0 (B0 m c))

/-- The kernel's result, entry by entry. -/
theorem result (b : Fin 2) (s : Fin 4096) (n : Fin 1024) :
    (B7 m hw c (Proc.devRef .tc main_v21) : Vec Ideal S2x4096x1024 .f32) (ix3 b s n)
      = layer (arg m c main_arg0) (arg m c main_arg2) (arg m c main_arg3) (arg m c main_arg4) (arg m c main_arg5) (arg m c main_arg6)
          (arg m c main_arg7) (arg m c main_arg8) (arg m c main_arg9) b s n := by
  have e : B7 m hw c (Proc.devRef .tc main_v21) = _ := read_v21 (B6 m hw c)
  have e6 : (B6 m hw c (Proc.devRef .tc main_v20) : Vec Ideal S8192x1024 .f32) = _ :=
    (B6_arr m hw c 6).trans (outnFinal (E5 m hw) c)
  have h15 : E5 m hw c main_v15 = _ := read_v15 (B4 m hw c)
  have h16 : E5 m hw c main_v16 = _ := read_v16 (B4 m hw c)
  have h17 : E5 m hw c main_v17 = _ := read_v17 (B4 m hw c)
  have h18 : E5 m hw c main_v18 = _ := read_v18 (B4 m hw c)
  have h19 : E5 m hw c main_v19 = _ := read_v19 (B4 m hw c)
  rw [B4_arg m hw c main_arg5 (by decide +kernel)] at h16
  rw [B4_arg m hw c main_arg6 (by decide +kernel)] at h17
  rw [B4_arg m hw c main_arg7 (by decide +kernel)] at h18
  rw [B4_arg m hw c main_arg8 (by decide +kernel)] at h19
  rw [e, result_at, e6]
  have row : preNorm (E5 m hw c main_v15) (E5 m hw c main_v16) (E5 m hw c main_v17) (E5 m hw c main_v0) (tokRow b s)
      = outRow (ctx m c) (arg m c main_arg5) (arg m c main_arg6) (arg m c main_arg0) b s := by
    funext j
    unfold preNorm outRow
    rw [h15, h16, h17, rows_kept]
    refine congrArg₂ (· + ·) (congrArg₂ (· + ·) (Finset.sum_congr rfl fun k _ => congrArg₂ (· * ·) ?_ rfl) (vec_at _ j)) (rows_at _ b s j)
    exact (ctx_at _ b s k).trans (ctx_array m hw c b _ s _)
  show normRow (E5 m hw c main_v15) (E5 m hw c main_v16) (E5 m hw c main_v0) (E5 m hw c main_v17) (E5 m hw c main_v18) (E5 m hw c main_v19)
    (tokRow b s) n = _
  unfold normRow layer Layer.norm
  rw [row, h18, h19, vec_at, vec_at, div_sqrt _ _ (variance_nonneg _)]

end Cert.KernelIdeal.Hand

end
-- ==== Proof.RefMask.lean ====
/- The reference's arrays over the heads: its projections by head, and its mask, which is one everywhere and so adds nothing. -/
module

public import proofs.«01_k».proof.Proof.Gen.ReferenceIdeal.Run
public import proofs.«01_k».proof.Proof.Layer
public import Idealize.ShloMosaic.Lib.Pointwise

@[expose] public section

set_option maxRecDepth 16384

noncomputable section

namespace Cert.ReferenceIdeal.Hand

open Idealize.ShloMosaic Idealize.ShloMosaic.TcCoe
open Cert.ReferenceIdeal.Value Cert.ReferenceIdeal.Gen
open Cert.Layer

variable (V : Valuation τ sig (Elt Ideal))

/-- The keys by head, -/
theorem key_at (b : Fin 2) (h : Fin 16) (s : Fin 4096) (d : Fin 64) :
    (res_main_v20 (F := Ideal) V) (ix4 b h s d) = head (V (Proc.devRef .tc main_arg0)) (V (Proc.devRef .tc main_arg3)) b h s d := by
  pointwise [res_main_v20, head, proj]
  rfl
/-- and the values; -/
theorem value_at (b : Fin 2) (h : Fin 16) (s : Fin 4096) (d : Fin 64) :
    (res_main_v23 (F := Ideal) V) (ix4 b h s d) = head (V (Proc.devRef .tc main_arg0)) (V (Proc.devRef .tc main_arg4)) b h s d := by
  pointwise [res_main_v23, head, proj]
  rfl
/-- row `r` of block `n`. -/
def row (n r : Fin 64) : Fin 4096 := ⟨n.val * 64 + r.val, by omega⟩
/-- The queries by head and block. -/
theorem query_at (b : Fin 2) (h : Fin 16) (n r d : Fin 64) :
    (res_main_v24 (F := Ideal) V) (ix5 b h n r d)
      = head (V (Proc.devRef .tc main_arg0)) (V (Proc.devRef .tc main_arg2)) b h (row n r) d := by
  pointwise [res_main_v24, head, proj]
  rfl
/-- The keys by block -/
theorem keyBlock_at (b : Fin 2) (h : Fin 16) (n r d : Fin 64) :
    (res_main_v25 (F := Ideal) V) (ix5 b h n r d)
      = head (V (Proc.devRef .tc main_arg0)) (V (Proc.devRef .tc main_arg3)) b h (row n r) d := by
  rw [← key_at]
  pointwise [res_main_v25]
  rfl
/-- and the values by block. -/
theorem valueBlock_at (b : Fin 2) (h : Fin 16) (n r d : Fin 64) :
    (res_main_v26 (F := Ideal) V) (ix5 b h n r d)
      = head (V (Proc.devRef .tc main_arg0)) (V (Proc.devRef .tc main_arg4)) b h (row n r) d := by
  rw [← value_at]
  pointwise [res_main_v26]
  rfl

/-- The word of one, -/
theorem word_one : Ideal.ofBits .f32 0x3F800000#32 = 1 := by
  simp [Ideal.ofBits, Ideal.ieee, -EReal.coe_mul]; norm_num
/-- and that of the number that masked scores get, which is finite: one less one, times it, is zero. -/
theorem no_penalty : (Ideal.ofBits .f32 0x3F800000#32 - 1) * Ideal.ofBits .f32 0xCE6E6B28#32 = 0 := by
  rw [word_one]
  have : (1 : EReal) - 1 = 0 := by rw [show (1 : EReal) = ((1 : ℝ) : EReal) from rfl, ← EReal.coe_sub, sub_self]; rfl
  rw [this, zero_mul]

variable (hmask : ∀ i : S2x4096.Idx, (V (Proc.devRef .tc main_arg1) : Vec Ideal S2x4096 .i1) i = 1#1)
include hmask

/-- The mask is one everywhere, -/
theorem mask_one : res_main_v0 (F := Ideal) V = fun _ => (1 : EReal) := by
  funext i
  show FloatOps.uitofp (F := Ideal) .f32 ((V (Proc.devRef .tc main_arg1) : Vec Ideal S2x4096 .i1) i) = _
  rw [hmask i]
  show (((1#1 : BitVec 1).toNat : ℝ) : EReal) = 1
  simp
/-- by block -/
theorem mask_blocks : res_main_v1 (F := Ideal) V = fun _ => (1 : EReal) := by
  unfold res_main_v1; rw [mask_one V hmask]; rfl
/-- and as a row. -/
theorem mask_row : res_main_v14 (F := Ideal) V = fun _ => (1 : EReal) := by
  unfold res_main_v14; rw [mask_one V hmask]; rfl

end Cert.ReferenceIdeal.Hand

end
-- ==== Proof.RefGather.lean ====
/- The reference's three gathers at an index: the four edge query blocks, and the key and value blocks that the table names. -/
module

public import proofs.«01_k».proof.Proof.RefMask

@[expose] public section

set_option maxRecDepth 16384

noncomputable section

namespace Cert.ReferenceIdeal.Hand

open Idealize.ShloMosaic Idealize.ShloMosaic.TcCoe
open Cert.ReferenceIdeal.Value Cert.ReferenceIdeal.Gen
open Cert.Layer

/-- A word below 64 read as a block number. -/
theorem clamp_block (x : BitVec 32) (n : Fin 64) (hx : x.toNat = n.val) : min x.toInt.toNat (64 - 1) = n.val := by
  have : x.toInt = (n.val : Int) := by rw [BitVec.toInt_eq_toNat_cond]; split <;> omega
  rw [this]; omega
/-- A word below 16 read as a head's number. -/
theorem clamp_head (x : BitVec 32) (n : Fin 16) (hx : x.toNat = n.val) : min x.toInt.toNat (16 - 1) = n.val := by
  have : x.toInt = (n.val : Int) := by rw [BitVec.toInt_eq_toNat_cond]; split <;> omega
  rw [this]; omega

/-- The gather of edge query blocks at an index: the block that the list's word names. -/
theorem gatherEdge_at {α : Type} (x : S2x16x64x64x64.Idx → α) (idx : IVec S4x1 32) (b : Fin 2) (h : Fin 16) (f : Fin 4) (r d : Fin 64)
    (n : Fin 64) (hn : (idx (ix2 f 0)).toNat = n.val) :
    Host.gather gather_S2x16x64x64x64_S4x1_S2x16x4x64x64_0134_2_n_n_2_1_21616464 x idx (ix5 b h f r d) = x (ix5 b h n r d) := by
  unfold Host.gather
  congr 1
  funext a
  refine Fin.ext ?_
  have hs : GatherDims.siIdx gather_S2x16x64x64x64_S4x1_S2x16x4x64x64_0134_2_n_n_2_1_21616464 (ix5 b h f r d)
      ⟨0, by decide⟩ = ix2 f 0 := by
    funext b; refine Fin.ext ?_
    match b with
    | ⟨0, _⟩ => rfl
    | ⟨1, _⟩ => rfl
  match a with
  | ⟨0, _⟩ => exact Nat.zero_add _
  | ⟨1, _⟩ => exact Nat.zero_add _
  | ⟨2, _⟩ =>
    refine Eq.trans ?_ (clamp_block _ n hn)
    rw [← hs]
    rfl
  | ⟨3, _⟩ => exact Nat.zero_add _
  | ⟨4, _⟩ => exact Nat.zero_add _

/-- The gather of blocks by head and block number at an index. -/
theorem gatherTable_at {α : Type} (x : S2x16x64x64x64.Idx → α) (idx : IVec S16x60x3x2 32) (b : Fin 2) (h : Fin 16) (m : Fin 60) (j : Fin 3)
    (r d : Fin 64) (h' : Fin 16) (n : Fin 64) (hh : (idx (ix4 h m j 0)).toNat = h'.val) (hn : (idx (ix4 h m j 1)).toNat = n.val) :
    Host.gather gather_S2x16x64x64x64_S16x60x3x2_S2x16x60x3x64x64_045_12_n_n_12_3_2116464 x idx (ix6 b h m j r d)
      = x (ix5 b h' n r d) := by
  unfold Host.gather
  congr 1
  funext a
  refine Fin.ext ?_
  have hs0 : GatherDims.siIdx gather_S2x16x64x64x64_S16x60x3x2_S2x16x60x3x64x64_045_12_n_n_12_3_2116464 (ix6 b h m j r d)
      ⟨0, by decide⟩ = ix4 h m j 0 := by
    funext b; refine Fin.ext ?_
    match b with
    | ⟨0, _⟩ => rfl
    | ⟨1, _⟩ => rfl
    | ⟨2, _⟩ => rfl
    | ⟨3, _⟩ => rfl
  have hs1 : GatherDims.siIdx gather_S2x16x64x64x64_S16x60x3x2_S2x16x60x3x64x64_045_12_n_n_12_3_2116464 (ix6 b h m j r d)
      ⟨1, by decide⟩ = ix4 h m j 1 := by
    funext b; refine Fin.ext ?_
    match b with
    | ⟨0, _⟩ => rfl
    | ⟨1, _⟩ => rfl
    | ⟨2, _⟩ => rfl
    | ⟨3, _⟩ => rfl
  match a with
  | ⟨0, _⟩ => exact Nat.zero_add _
  | ⟨1, _⟩ =>
    refine Eq.trans ?_ (clamp_head _ h' hh)
    rw [← hs0]
    rfl
  | ⟨2, _⟩ =>
    refine Eq.trans ?_ (clamp_block _ n hn)
    rw [← hs1]
    rfl
  | ⟨3, _⟩ => exact Nat.zero_add _
  | ⟨4, _⟩ => exact Nat.zero_add _

/-! ## The index words, with negative ones counted from the end -/

/-- A word that is not negative is not counted from the end. -/
theorem wrap (x k : BitVec 32) (hx : x.toNat < 2 ^ 31) : Scalar.select (IntOp.cmpi .slt x 0#32) (IntOp.addi x k) x = x := by
  have h : ¬ x.slt 0#32 := by
    rw [BitVec.slt_eq_decide]
    have : x.toInt = (x.toNat : Int) := by rw [BitVec.toInt_eq_toNat_cond]; split <;> omega
    simp [this]
  have e : IntOp.cmpi .slt x 0#32 = 0#1 := by
    show BitVec.ofBool (x.slt 0#32) = 0#1
    simp only [Bool.not_eq_true] at h
    rw [h]; rfl
  rw [e]; rfl

/-- The list of edge blocks as the gather reads it. -/
def edgeIdx (V : Valuation τ sig (Elt Ideal)) : IVec S4x1 32 :=
  broadcastInDim S4x1 ![0] bcast_S4_S4x1_0 (select (cmpi .slt (res_main_c (F := Ideal) V) (broadcastInDim S4 ![] bcast_S_S4 (constantI S_ 32 0#32)))
    (addi (res_main_c (F := Ideal) V) (broadcastInDim S4 ![] bcast_S_S4 (constantI S_ 32 64#32))) (res_main_c (F := Ideal) V))

/-- The edge block of each of the four places. -/
def edgeBlock : Fin 4 → Fin 64 := ![0, 1, 62, 63]

/-- Each word of the list is its block's number. -/
theorem edgeIdx_at (V : Valuation τ sig (Elt Ideal)) (f : Fin 4) : (edgeIdx V (ix2 f 0)).toNat = (edgeBlock f).val := by
  pointwise [edgeIdx, res_main_c]
  revert f
  decide +kernel

/-- The table as the gather reads it: the head's number beside the block's. -/
def tableIdx (tab : IVec S16x60x3 32) (V : Valuation τ sig (Elt Ideal)) : IVec S16x60x3x2 32 :=
  concatenate S16x60x3x2 3 [⟨S16x60x3x1, (broadcastInDim S16x60x3x1 ![0, 1, 2] bcast_S16x60x3_S16x60x3x1_0_1_2 (broadcastInDim S16x60x3 ![0, 1, 2] bcast_S16x1x1_S16x60x3_0_1_2 (select (cmpi .slt (res_main_v66 (F := Ideal) V) (broadcastInDim S16x1x1 ![] bcast_S_S16x1x1 (constantI S_ 32 0#32))) (addi (res_main_v66 (F := Ideal) V) (broadcastInDim S16x1x1 ![] bcast_S_S16x1x1 (constantI S_ 32 16#32))) (res_main_v66 (F := Ideal) V))))⟩,
    ⟨S16x60x3x1, (broadcastInDim S16x60x3x1 ![0, 1, 2] bcast_S16x60x3_S16x60x3x1_0_1_2 (select (cmpi .slt tab (broadcastInDim S16x60x3 ![] bcast_S_S16x60x3 (constantI S_ 32 0#32))) (addi tab (broadcastInDim S16x60x3 ![] bcast_S_S16x60x3 (constantI S_ 32 64#32))) tab))⟩]
    concatenates_S16x60x3x1_S16x60x3x1_S16x60x3x2_d3

/-- The first of a pair is the head's number, -/
theorem tableIdx_head (tab : IVec S16x60x3 32) (V : Valuation τ sig (Elt Ideal)) (h : Fin 16) (m : Fin 60) (j : Fin 3) :
    (tableIdx tab V (ix4 h m j 0)).toNat = h.val := by
  pointwise [tableIdx, res_main_v66]
  have e : (BitVec.ofNat 32 h.val).toNat = h.val := by rw [BitVec.toNat_ofNat]; omega
  rw [wrap _ _ (by omega), e]
/-- the second the table's word. -/
theorem tableIdx_block (tab : IVec S16x60x3 32) (V : Valuation τ sig (Elt Ideal)) (h : Fin 16) (m : Fin 60) (j : Fin 3)
   (ht : (tab (ix3 h m j)).toNat < 64) :
    (tableIdx tab V (ix4 h m j 1)).toNat = (tab (ix3 h m j)).toNat := by
  pointwise [tableIdx]
  rw [wrap _ _ (by omega)]

end Cert.ReferenceIdeal.Hand

end
-- ==== Proof.RefEdge.lean ====
/- The reference's edge blocks: 4 blocks of 64 queries against every key. -/
module

public import proofs.«01_k».proof.Proof.RefGather

@[expose] public section

set_option maxRecDepth 16384

noncomputable section

namespace Cert.ReferenceIdeal.Hand

open Idealize.ShloMosaic Idealize.ShloMosaic.TcCoe
open Cert.ReferenceIdeal.Value Cert.ReferenceIdeal.Gen
open Cert.Layer

/-- Minus infinity is below everything. -/
theorem max_bot (x : EReal) : max (Ideal.ofBits .f32 0xFF800000#32) x = x := by
  have : Ideal.ofBits .f32 0xFF800000#32 = (⊥ : EReal) := by simp [Ideal.ofBits, Ideal.ieee]
  rw [this]; exact max_eq_right bot_le

/-- The scaled scores of the edge queries, with a mask's penalties added. -/
def edgeScores (q : FVec Ideal S2x16x4x64x64 .f32) (k : FVec Ideal S2x16x4096x64 .f32) (pen : FVec Ideal S2x16x4x64x4096 .f32) :
    FVec Ideal S2x16x4x64x4096 .f32 :=
  addf (mulf (Host.dotGeneral dot_S2x16x4x64x64_S2x16x4096x64_S2x16x4x64x4096_4_3_23_2_01_01 none q k)
    (broadcastInDim S2x16x4x64x4096 ![] bcast_S_S2x16x4x64x4096 (constant S_ .f32 0x3E000000#32))) pen

/-- The mask's penalties of the edge scores. -/
def edgePenalty (V : Valuation τ sig (Elt Ideal)) : FVec Ideal S2x16x4x64x4096 .f32 :=
  broadcastInDim S2x16x4x64x4096 ![0, 1, 2, 3, 4] bcast_S2x1x1x1x4096_S2x16x4x64x4096_0_1_2_3_4 (mulf (subf (broadcastInDim S2x1x1x1x4096 ![] bcast_S_S2x1x1x1x4096 (constant S_ .f32 0x3F800000#32)) (broadcastInDim S2x1x1x1x4096 ![0, 1, 3, 4] bcast_S2x1x1x4096_S2x1x1x1x4096_0_1_3_4 (res_main_v14 (F := Ideal) V))) (broadcastInDim S2x1x1x1x4096 ![] bcast_S_S2x1x1x1x4096 (constant S_ .f32 0xCE6E6B28#32)))

/-- Each row's largest score. -/
def edgeTop (x : FVec Ideal S2x16x4x64x4096 .f32) : FVec Ideal S2x16x4x64 .f32 :=
  Host.reduce FloatOps.maximumf x (constant S_ .f32 0xFF800000#32) reducesTo_S2x16x4x64x4096_S2x16x4x64_d4 h_S_

/-- The larger of minus infinity and each. -/
def edgeLow (t : FVec Ideal S2x16x4x64 .f32) : FVec Ideal S2x16x4x64 .f32 :=
  maximumf (broadcastInDim S2x16x4x64 ![] bcast_S_S2x16x4x64 (constant S_ .f32 0xFF800000#32)) t
/-- A row's number along the row. -/
def edgeSpread (t : FVec Ideal S2x16x4x64 .f32) : FVec Ideal S2x16x4x64x4096 .f32 :=
  broadcastInDim S2x16x4x64x4096 ![0, 1, 2, 3, 4] bcast_S2x16x4x64x1_S2x16x4x64x4096_0_1_2_3_4 (broadcastInDim S2x16x4x64x1 ![0, 1, 2, 3] bcast_S2x16x4x64_S2x16x4x64x1_0_1_2_3 t)
/-- The exponential of a difference. -/
def edgeDiff (x t : FVec Ideal S2x16x4x64x4096 .f32) : FVec Ideal S2x16x4x64x4096 .f32 := Host.exp (subf x t)
/-- The exponentials of scores less their row's largest. -/
def edgeExp (x : FVec Ideal S2x16x4x64x4096 .f32) : FVec Ideal S2x16x4x64x4096 .f32 := edgeDiff x (edgeSpread (edgeLow (edgeTop x)))

/-- The exponentials, divided by their row's sum, applied to the values. -/
def edgeMix (e : FVec Ideal S2x16x4x64x4096 .f32) (v : FVec Ideal S2x16x4096x64 .f32) : FVec Ideal S2x16x4x64x64 .f32 :=
  Host.dotGeneral dot_S2x16x4x64x4096_S2x16x4096x64_S2x16x4x64x64_4_2_23_3_01_01 none (Host.divf e (broadcastInDim S2x16x4x64x4096 ![0, 1, 2, 3, 4] bcast_S2x16x4x64x1_S2x16x4x64x4096_0_1_2_3_4 (broadcastInDim S2x16x4x64x1 ![0, 1, 2, 3] bcast_S2x16x4x64_S2x16x4x64x1_0_1_2_3 (Host.reduceAdd e (constant S_ .f32 0x00000000#32) reducesTo_S2x16x4x64x4096_S2x16x4x64_d4 h_S_)))) v

/-- The word that a largest score starts from. -/
theorem negInf (i : S_.Idx) : constant (F := Ideal) S_ .f32 0xFF800000#32 i = Ideal.ofBits .f32 0xFF800000#32 := rfl

/-- A largest entry along the last of five axes is the fold of the maximum over it. -/
theorem rowMax {n0 n1 n2 n3 n4 : ℕ} (x : FVec Ideal ⟨5, ![n0, n1, n2, n3, n4]⟩ .f32) (c : FVec Ideal S_ .f32)
    (h : (⟨5, ![n0, n1, n2, n3, n4]⟩ : Shape).ReducesTo [4] ⟨4, ![n0, n1, n2, n3]⟩) (hu : 0 < S_.numel)
    (i0 : Fin n0) (i1 : Fin n1) (i2 : Fin n2) (i3 : Fin n3) :
    Host.reduce FloatOps.maximumf x c h hu (ix4 i0 i1 i2 i3)
      = Finset.univ.fold max (c (Shape.Idx.first hu) : EReal) fun k : Fin n4 => x (ix5 i0 i1 i2 i3 k) :=
  (Host.reduce_eq_fold (max : EReal → EReal → EReal) x c h hu _).trans (h.fold_fiber_r5_a4 _ (max : EReal → EReal → EReal) _ x)

/-- At the edge scores' shape, -/
theorem edgeMax (x : FVec Ideal S2x16x4x64x4096 .f32) (c : FVec Ideal S_ .f32) (b : Fin 2) (h : Fin 16) (f : Fin 4) (r : Fin 64) :
    Host.reduce FloatOps.maximumf x c reducesTo_S2x16x4x64x4096_S2x16x4x64_d4 h_S_ (ix4 b h f r)
      = Finset.univ.fold max (c (Shape.Idx.first h_S_) : EReal) fun l => x (ix5 b h f r l) :=
  rowMax x c _ _ b h f r
/-- and from minus infinity. -/
theorem edgeTop_at (x : FVec Ideal S2x16x4x64x4096 .f32) (b : Fin 2) (h : Fin 16) (f : Fin 4) (r : Fin 64) :
    edgeTop x (ix4 b h f r) = top fun l => x (ix5 b h f r l) := by
  unfold edgeTop
  rw [edgeMax, negInf, top]

/-- Without penalties a score is the scaled product of its query and its key. -/
theorem edgeScores_at (q : FVec Ideal S2x16x4x64x64 .f32) (k : FVec Ideal S2x16x4096x64 .f32) (b : Fin 2) (h : Fin 16) (f : Fin 4)
    (r : Fin 64) (s : Fin 4096) :
    edgeScores q k (fun _ => (0 : EReal)) (ix5 b h f r s) = score (fun d => q (ix5 b h f r d)) (fun d => k (ix4 b h s d)) := by
  pointwise [edgeScores, score]

/-- The larger of minus infinity and an entry, -/
theorem edgeLow_at (t : FVec Ideal S2x16x4x64 .f32) (b : Fin 2) (h : Fin 16) (f : Fin 4) (r : Fin 64) :
    edgeLow t (ix4 b h f r) = max (Ideal.ofBits .f32 0xFF800000#32) (t (ix4 b h f r)) := by
  pointwise [edgeLow]
/-- a row's number at each place of the row, -/
theorem edgeSpread_at (t : FVec Ideal S2x16x4x64 .f32) (b : Fin 2) (h : Fin 16) (f : Fin 4) (r : Fin 64) (s : Fin 4096) :
    edgeSpread t (ix5 b h f r s) = t (ix4 b h f r) := by
  pointwise [edgeSpread]
/-- and the exponential of a difference, at an index: -/
theorem edgeDiff_at (x t : FVec Ideal S2x16x4x64x4096 .f32) (b : Fin 2) (h : Fin 16) (f : Fin 4) (r : Fin 64) (s : Fin 4096) :
    edgeDiff x t (ix5 b h f r s) = Ideal.exp (x (ix5 b h f r s) - t (ix5 b h f r s)) := by
  pointwise [edgeDiff]
/-- the exponentials are those of the scores less their row's largest. -/
theorem edgeExp_at (x : FVec Ideal S2x16x4x64x4096 .f32) (b : Fin 2) (h : Fin 16) (f : Fin 4) (r : Fin 64) (s : Fin 4096) :
    edgeExp x (ix5 b h f r s) = Ideal.exp (x (ix5 b h f r s) - top fun l => x (ix5 b h f r l)) := by
  unfold edgeExp
  rw [edgeDiff_at, edgeSpread_at, edgeLow_at, max_bot, edgeTop_at]

/-- The mix is the sum of the values weighted by the normalized exponentials. -/
theorem edgeMix_at (e : FVec Ideal S2x16x4x64x4096 .f32) (v : FVec Ideal S2x16x4096x64 .f32) (b : Fin 2) (h : Fin 16) (f : Fin 4) (r d : Fin 64) :
    edgeMix e v (ix5 b h f r d) = ∑ s, Ideal.div (e (ix5 b h f r s)) (∑ l, e (ix5 b h f r l)) * v (ix4 b h s d) := by
  pointwise [edgeMix]

variable (V : Valuation τ sig (Elt Ideal))
/-- The printed context of the edge blocks is these, composed. -/
theorem edge_eq : res_main_v55 (F := Ideal) V = edgeMix (edgeExp (edgeScores
    (Host.gather gather_S2x16x64x64x64_S4x1_S2x16x4x64x64_0134_2_n_n_2_1_21616464 (res_main_v24 (F := Ideal) V) (edgeIdx V))
    (res_main_v20 (F := Ideal) V) (edgePenalty V))) (res_main_v23 (F := Ideal) V) := rfl

variable (hmask : ∀ i : S2x4096.Idx, (V (Proc.devRef .tc main_arg1) : Vec Ideal S2x4096 .i1) i = 1#1)
include hmask

/-- An all-true mask has no penalties. -/
theorem edgePenalty_zero : edgePenalty V = fun _ => (0 : EReal) := by
  unfold edgePenalty
  rw [mask_row V hmask]
  funext i
  exact no_penalty

/-- The edge blocks' context: each query attends to every key. -/
theorem edge_at (b : Fin 2) (h : Fin 16) (f : Fin 4) (r d : Fin 64) :
    (res_main_v55 (F := Ideal) V) (ix5 b h f r d)
      = attend (fun k : Fin 4096 => score (head (V (Proc.devRef .tc main_arg0)) (V (Proc.devRef .tc main_arg2)) b h (row (edgeBlock f) r))
            (head (V (Proc.devRef .tc main_arg0)) (V (Proc.devRef .tc main_arg3)) b h k))
          fun k => head (V (Proc.devRef .tc main_arg0)) (V (Proc.devRef .tc main_arg4)) b h k d := by
  rw [edge_eq, edgePenalty_zero V hmask, edgeMix_at]
  unfold attend
  simp only [edgeExp_at, edgeScores_at, key_at, value_at, gatherEdge_at _ _ b h f r _ (edgeBlock f) (edgeIdx_at V f), query_at]

end Cert.ReferenceIdeal.Hand

end
-- ==== Proof.RefMiddle.lean ====
/- The reference's middle blocks: 60 blocks of 64 queries, each against 512 listed keys. -/
module

public import proofs.«01_k».proof.Proof.RefEdge

@[expose] public section

set_option maxRecDepth 16384

noncomputable section

namespace Cert.ReferenceIdeal.Hand

open Idealize.ShloMosaic Idealize.ShloMosaic.TcCoe
open Cert.ReferenceIdeal.Value Cert.ReferenceIdeal.Gen
open Cert.Layer

/-! ## The listed blocks -/

/-- Each middle block with its two neighbours. -/
def bandOf (x : FVec Ideal S2x16x64x64x64 .f32) : FVec Ideal S2x16x60x192x64 .f32 :=
  concatenate S2x16x60x192x64 3 [⟨S2x16x60x64x64, extractStridedSlice S2x16x60x64x64 ![0, 0, 1, 0, 0] x slices_S2x16x64x64x64_S2x16x60x64x64_0_0_1_0_0⟩,
    ⟨S2x16x60x64x64, extractStridedSlice S2x16x60x64x64 ![0, 0, 2, 0, 0] x slices_S2x16x64x64x64_S2x16x60x64x64_0_0_2_0_0⟩,
    ⟨S2x16x60x64x64, extractStridedSlice S2x16x60x64x64 ![0, 0, 3, 0, 0] x slices_S2x16x64x64x64_S2x16x60x64x64_0_0_3_0_0⟩]
    concatenates_S2x16x60x64x64_S2x16x60x64x64_S2x16x60x64x64_S2x16x60x192x64_d3

/-- The three blocks that the table names for each middle block. -/
def tableOf (x : FVec Ideal S2x16x64x64x64 .f32) (idx : IVec S16x60x3x2 32) : FVec Ideal S2x16x60x192x64 .f32 :=
  shapeCast _ (Host.gather gather_S2x16x64x64x64_S16x60x3x2_S2x16x60x3x64x64_045_12_n_n_12_3_2116464 x idx) shapeCasts_S2x16x60x3x64x64_S2x16x60x192x64

/-- The first block, -/
def firstOf (x : FVec Ideal S2x16x64x64x64 .f32) : FVec Ideal S2x16x1x64x64 .f32 :=
  extractStridedSlice S2x16x1x64x64 ![0, 0, 0, 0, 0] x slices_S2x16x64x64x64_S2x16x1x64x64_0_0_0_0_0
/-- and the last. -/
def lastOf (x : FVec Ideal S2x16x64x64x64 .f32) : FVec Ideal S2x16x1x64x64 .f32 :=
  extractStridedSlice S2x16x1x64x64 ![0, 0, 63, 0, 0] x slices_S2x16x64x64x64_S2x16x1x64x64_0_0_63_0_0

/-- Row `k` of the band of middle block `m` lies in block `m + 1 + k / 64`. -/
theorem bandOf_at (x : FVec Ideal S2x16x64x64x64 .f32) (b : Fin 2) (h : Fin 16) (m : Fin 60) (k : Fin 192) (d : Fin 64) :
    bandOf x (ix5 b h m k d) = x (ix5 b h ⟨m.val + 1 + k.val / 64, by omega⟩ ⟨k.val % 64, by omega⟩ d) := by
  pointwise [bandOf]
  by_cases h0 : k.val < 64
  · rw [dif_pos h0]
    exact congrArg₂ (fun n z => x (ix5 b h n z d)) (Fin.ext (by simp only; omega)) (Fin.ext (by simp only; omega))
  · rw [dif_neg h0]
    by_cases h1 : k.val - 64 < 64
    · rw [dif_pos h1]
      exact congrArg₂ (fun n z => x (ix5 b h n z d)) (Fin.ext (by simp only; omega)) (Fin.ext (by simp only; omega))
    · rw [dif_neg h1]
      exact congrArg₂ (fun n z => x (ix5 b h n z d)) (Fin.ext (by simp only; omega)) (Fin.ext (by simp only; omega))

/-- Row `k` of the table's blocks lies in the block that its word `k / 64` names. -/
theorem tableOf_at (x : FVec Ideal S2x16x64x64x64 .f32) (idx : IVec S16x60x3x2 32) (b : Fin 2) (h : Fin 16) (m : Fin 60) (k : Fin 192)
    (d : Fin 64) (n : Fin 64) (hh : ∀ j, (idx (ix4 h m j 0)).toNat = h.val)
    (hn : (idx (ix4 h m ⟨k.val / 64, by omega⟩ 1)).toNat = n.val) :
    tableOf x idx (ix5 b h m k d) = x (ix5 b h n ⟨k.val % 64, by omega⟩ d) := by
  have e : tableOf x idx (ix5 b h m k d)
      = Host.gather gather_S2x16x64x64x64_S16x60x3x2_S2x16x60x3x64x64_045_12_n_n_12_3_2116464 x idx
        (ix6 b h m ⟨k.val / 64, by omega⟩ ⟨k.val % 64, by omega⟩ d) := by
    unfold tableOf
    generalize Host.gather gather_S2x16x64x64x64_S16x60x3x2_S2x16x60x3x64x64_045_12_n_n_12_3_2116464 x idx = g
    pointwise
  rw [e]
  exact gatherTable_at x idx b h m _ _ d h n (hh _) hn

/-! ## Scores, their softmax, and the values mixed -/

/-- The scaled scores of the middle queries against 192 keys of their own, with penalties added. -/
def ownScores (q : FVec Ideal S2x16x60x64x64 .f32) (k : FVec Ideal S2x16x60x192x64 .f32) (pen : FVec Ideal S2x16x60x64x192 .f32) :
    FVec Ideal S2x16x60x64x192 .f32 :=
  addf (mulf (Host.dotGeneral dot_S2x16x60x64x64_S2x16x60x192x64_S2x16x60x64x192_4_4_3_3_012_012 none q k)
    (broadcastInDim S2x16x60x64x192 ![] bcast_S_S2x16x60x64x192 (constant S_ .f32 0x3E000000#32))) pen

/-- The scaled scores of the middle queries against one block that all of them see, with penalties added. -/
def sharedScores (q : FVec Ideal S2x16x60x64x64 .f32) (k : FVec Ideal S2x16x1x64x64 .f32) (pen : FVec Ideal S2x16x60x64x64 .f32) :
    FVec Ideal S2x16x60x64x64 .f32 :=
  addf (mulf (Host.dotGeneral dot_S2x16x60x64x64_S2x16x64x64_S2x16x60x64x64_4_3_23_2_01_01 none q (shapeCast _ k shapeCasts_S2x16x1x64x64_S2x16x64x64))
    (broadcastInDim S2x16x60x64x64 ![] bcast_S_S2x16x60x64x64 (constant S_ .f32 0x3E000000#32))) pen

/-- Without penalties a score against a key of the block's own is the scaled product, -/
theorem ownScores_at (q : FVec Ideal S2x16x60x64x64 .f32) (k : FVec Ideal S2x16x60x192x64 .f32) (b : Fin 2) (h : Fin 16) (m : Fin 60)
    (r : Fin 64) (s : Fin 192) :
    ownScores q k (fun _ => (0 : EReal)) (ix5 b h m r s) = score (fun d => q (ix5 b h m r d)) (fun d => k (ix5 b h m s d)) := by
  pointwise [ownScores, score]
/-- and so is one against a shared block. -/
theorem sharedScores_at (q : FVec Ideal S2x16x60x64x64 .f32) (k : FVec Ideal S2x16x1x64x64 .f32) (b : Fin 2) (h : Fin 16) (m : Fin 60)
    (r s : Fin 64) :
    sharedScores q k (fun _ => (0 : EReal)) (ix5 b h m r s) = score (fun d => q (ix5 b h m r d)) (fun d => k (ix5 b h 0 s d)) := by
  pointwise [sharedScores, score]

/-- The four groups of scores in a row. -/
def joinScores (a : FVec Ideal S2x16x60x64x192 .f32) (f l : FVec Ideal S2x16x60x64x64 .f32) (t : FVec Ideal S2x16x60x64x192 .f32) :
    FVec Ideal S2x16x60x64x512 .f32 :=
  concatenate S2x16x60x64x512 4 [⟨S2x16x60x64x192, a⟩, ⟨S2x16x60x64x64, f⟩, ⟨S2x16x60x64x64, l⟩, ⟨S2x16x60x64x192, t⟩]
    concatenates_S2x16x60x64x192_S2x16x60x64x64_S2x16x60x64x64_S2x16x60x64x192_S2x16x60x64x512_d4

/-- The four groups of values in a row. -/
def joinValues (a : FVec Ideal S2x16x60x192x64 .f32) (f l : FVec Ideal S2x16x1x64x64 .f32) (t : FVec Ideal S2x16x60x192x64 .f32) :
    FVec Ideal S2x16x60x512x64 .f32 :=
  concatenate S2x16x60x512x64 3 [⟨S2x16x60x192x64, a⟩,
    ⟨S2x16x60x64x64, broadcastInDim S2x16x60x64x64 ![0, 1, 2, 3, 4] bcast_S2x16x1x64x64_S2x16x60x64x64_0_1_2_3_4 f⟩,
    ⟨S2x16x60x64x64, broadcastInDim S2x16x60x64x64 ![0, 1, 2, 3, 4] bcast_S2x16x1x64x64_S2x16x60x64x64_0_1_2_3_4 l⟩, ⟨S2x16x60x192x64, t⟩]
    concatenates_S2x16x60x192x64_S2x16x60x64x64_S2x16x60x64x64_S2x16x60x192x64_S2x16x60x512x64_d3

/-- The joined scores by their place in the row, -/
theorem joinScores_at (a : FVec Ideal S2x16x60x64x192 .f32) (f l : FVec Ideal S2x16x60x64x64 .f32) (t : FVec Ideal S2x16x60x64x192 .f32)
    (b : Fin 2) (h : Fin 16) (m : Fin 60) (r : Fin 64) (k : Fin 512) :
    joinScores a f l t (ix5 b h m r k) = if h0 : k.val < 192 then a (ix5 b h m r ⟨k.val, h0⟩)
      else if h1 : k.val < 256 then f (ix5 b h m r ⟨k.val - 192, by omega⟩)
      else if h2 : k.val < 320 then l (ix5 b h m r ⟨k.val - 256, by omega⟩)
      else t (ix5 b h m r ⟨k.val - 320, by omega⟩) := by
  pointwise [joinScores]
  by_cases h0 : k.val < 192
  · rw [dif_pos h0, dif_pos h0]
  rw [dif_neg h0, dif_neg h0]
  by_cases h1 : k.val < 256
  · rw [dif_pos (by omega), dif_pos h1]
  rw [dif_neg (by omega), dif_neg h1]
  by_cases h2 : k.val < 320
  · rw [dif_pos (by omega), dif_pos h2]
    exact congrArg (fun z => l (ix5 b h m r z)) (Fin.ext (by simp only; omega))
  · rw [dif_neg (by omega), dif_neg h2]
    exact congrArg (fun z => t (ix5 b h m r z)) (Fin.ext (by simp only; omega))

/-- and the joined values by theirs. -/
theorem joinValues_at (a : FVec Ideal S2x16x60x192x64 .f32) (f l : FVec Ideal S2x16x1x64x64 .f32) (t : FVec Ideal S2x16x60x192x64 .f32)
    (b : Fin 2) (h : Fin 16) (m : Fin 60) (k : Fin 512) (d : Fin 64) :
    joinValues a f l t (ix5 b h m k d) = if h0 : k.val < 192 then a (ix5 b h m ⟨k.val, h0⟩ d)
      else if h1 : k.val < 256 then f (ix5 b h 0 ⟨k.val - 192, by omega⟩ d)
      else if h2 : k.val < 320 then l (ix5 b h 0 ⟨k.val - 256, by omega⟩ d)
      else t (ix5 b h m ⟨k.val - 320, by omega⟩ d) := by
  pointwise [joinValues]
  by_cases h0 : k.val < 192
  · rw [dif_pos h0, dif_pos h0]
  rw [dif_neg h0, dif_neg h0]
  by_cases h1 : k.val < 256
  · rw [dif_pos (by omega), dif_pos h1]
  rw [dif_neg (by omega), dif_neg h1]
  by_cases h2 : k.val < 320
  · rw [dif_pos (by omega), dif_pos h2]
    exact congrArg (fun z => l (ix5 b h 0 z d)) (Fin.ext (by simp only; omega))
  · rw [dif_neg (by omega), dif_neg h2]
    exact congrArg (fun z => t (ix5 b h m z d)) (Fin.ext (by simp only; omega))

/-- Each row's largest score. -/
def midTop (x : FVec Ideal S2x16x60x64x512 .f32) : FVec Ideal S2x16x60x64 .f32 :=
  Host.reduce FloatOps.maximumf x (constant S_ .f32 0xFF800000#32) reducesTo_S2x16x60x64x512_S2x16x60x64_d4 h_S_

/-- The larger of minus infinity and each. -/
def midLow (t : FVec Ideal S2x16x60x64 .f32) : FVec Ideal S2x16x60x64 .f32 :=
  maximumf (broadcastInDim S2x16x60x64 ![] bcast_S_S2x16x60x64 (constant S_ .f32 0xFF800000#32)) t
/-- A row's number along the row. -/
def midSpread (t : FVec Ideal S2x16x60x64 .f32) : FVec Ideal S2x16x60x64x512 .f32 :=
  broadcastInDim S2x16x60x64x512 ![0, 1, 2, 3, 4] bcast_S2x16x60x64x1_S2x16x60x64x512_0_1_2_3_4 (broadcastInDim S2x16x60x64x1 ![0, 1, 2, 3] bcast_S2x16x60x64_S2x16x60x64x1_0_1_2_3 t)
/-- The exponential of a difference. -/
def midDiff (x t : FVec Ideal S2x16x60x64x512 .f32) : FVec Ideal S2x16x60x64x512 .f32 := Host.exp (subf x t)
/-- The exponentials of scores less their row's largest. -/
def midExp (x : FVec Ideal S2x16x60x64x512 .f32) : FVec Ideal S2x16x60x64x512 .f32 := midDiff x (midSpread (midLow (midTop x)))

/-- The exponentials, divided by their row's sum, applied to the values. -/
def midMix (e : FVec Ideal S2x16x60x64x512 .f32) (v : FVec Ideal S2x16x60x512x64 .f32) : FVec Ideal S2x16x60x64x64 .f32 :=
  Host.dotGeneral dot_S2x16x60x64x512_S2x16x60x512x64_S2x16x60x64x64_4_3_3_4_012_012 none (Host.divf e (broadcastInDim S2x16x60x64x512 ![0, 1, 2, 3, 4] bcast_S2x16x60x64x1_S2x16x60x64x512_0_1_2_3_4 (broadcastInDim S2x16x60x64x1 ![0, 1, 2, 3] bcast_S2x16x60x64_S2x16x60x64x1_0_1_2_3 (Host.reduceAdd e (constant S_ .f32 0x00000000#32) reducesTo_S2x16x60x64x512_S2x16x60x64_d4 h_S_)))) v

/-- The largest of a row is the fold of the maximum over it, -/
theorem midMax (x : FVec Ideal S2x16x60x64x512 .f32) (c : FVec Ideal S_ .f32) (b : Fin 2) (h : Fin 16) (m : Fin 60) (r : Fin 64) :
    Host.reduce FloatOps.maximumf x c reducesTo_S2x16x60x64x512_S2x16x60x64_d4 h_S_ (ix4 b h m r)
      = Finset.univ.fold max (c (Shape.Idx.first h_S_) : EReal) fun l => x (ix5 b h m r l) :=
  rowMax x c _ _ b h m r

/-- here from minus infinity. -/
theorem midTop_at (x : FVec Ideal S2x16x60x64x512 .f32) (b : Fin 2) (h : Fin 16) (m : Fin 60) (r : Fin 64) :
    midTop x (ix4 b h m r) = top fun l => x (ix5 b h m r l) := by
  unfold midTop
  rw [midMax, negInf, top]

/-- The larger of minus infinity and an entry, -/
theorem midLow_at (t : FVec Ideal S2x16x60x64 .f32) (b : Fin 2) (h : Fin 16) (m : Fin 60) (r : Fin 64) :
    midLow t (ix4 b h m r) = max (Ideal.ofBits .f32 0xFF800000#32) (t (ix4 b h m r)) := by
  pointwise [midLow]
/-- a row's number at each place of the row, -/
theorem midSpread_at (t : FVec Ideal S2x16x60x64 .f32) (b : Fin 2) (h : Fin 16) (m : Fin 60) (r : Fin 64) (s : Fin 512) :
    midSpread t (ix5 b h m r s) = t (ix4 b h m r) := by
  pointwise [midSpread]
/-- and the exponential of a difference, at an index: -/
theorem midDiff_at (x t : FVec Ideal S2x16x60x64x512 .f32) (b : Fin 2) (h : Fin 16) (m : Fin 60) (r : Fin 64) (s : Fin 512) :
    midDiff x t (ix5 b h m r s) = Ideal.exp (x (ix5 b h m r s) - t (ix5 b h m r s)) := by
  pointwise [midDiff]
/-- the exponentials are those of the scores less their row's largest. -/
theorem midExp_at (x : FVec Ideal S2x16x60x64x512 .f32) (b : Fin 2) (h : Fin 16) (m : Fin 60) (r : Fin 64) (s : Fin 512) :
    midExp x (ix5 b h m r s) = Ideal.exp (x (ix5 b h m r s) - top fun l => x (ix5 b h m r l)) := by
  unfold midExp
  rw [midDiff_at, midSpread_at, midLow_at, max_bot, midTop_at]

/-- The mix is the sum of the values weighted by the normalized exponentials. -/
theorem midMix_at (e : FVec Ideal S2x16x60x64x512 .f32) (v : FVec Ideal S2x16x60x512x64 .f32) (b : Fin 2) (h : Fin 16) (m : Fin 60) (r d : Fin 64) :
    midMix e v (ix5 b h m r d) = ∑ s, Ideal.div (e (ix5 b h m r s)) (∑ l, e (ix5 b h m r l)) * v (ix5 b h m s d) := by
  pointwise [midMix]

/-! ## The keys that a middle block sees -/

section Listed

variable (x : FVec Ideal S2x16x64x64x64 .f32) (G : Fin 4096 → Fin 64 → EReal) (tab : IVec S16x60x3 32) (V : Valuation τ sig (Elt Ideal))
  (b : Fin 2) (h : Fin 16) (hx : ∀ n r d, x (ix5 b h n r d) = G (row n r) d)
include hx

/-- Blocks that hold a head's rows, read in the band, -/
theorem band_listed (m : Fin 60) (k : Fin 512) (h0 : k.val < 192) (d : Fin 64) :
    bandOf x (ix5 b h m ⟨k.val, h0⟩ d) = G (keyAt tab h m k) d := by
  rw [bandOf_at, hx]
  refine congrArg (fun z => G z d) (Fin.ext ?_)
  rw [keyAt_band tab h m k h0]
  show (m.val + 1 + k.val / 64) * 64 + k.val % 64 = _
  omega
/-- the first block, -/
theorem first_listed (m : Fin 60) (k : Fin 512) (h0 : ¬ k.val < 192) (h1 : k.val < 256) (d : Fin 64) :
    firstOf x (ix5 b h 0 ⟨k.val - 192, by omega⟩ d) = G (keyAt tab h m k) d := by
  have e : firstOf x (ix5 b h 0 ⟨k.val - 192, by omega⟩ d) = x (ix5 b h 0 ⟨k.val - 192, by omega⟩ d) := by
    pointwise [firstOf]
  rw [e, hx]
  refine congrArg (fun z => G z d) (Fin.ext ?_)
  rw [keyAt_first tab h m k h0 h1]
  show 0 * 64 + (k.val - 192) = _
  omega
/-- the last block -/
theorem last_listed (m : Fin 60) (k : Fin 512) (h1 : ¬ k.val < 256) (h2 : k.val < 320) (d : Fin 64) :
    lastOf x (ix5 b h 0 ⟨k.val - 256, by omega⟩ d) = G (keyAt tab h m k) d := by
  have e : lastOf x (ix5 b h 0 ⟨k.val - 256, by omega⟩ d) = x (ix5 b h 63 ⟨k.val - 256, by omega⟩ d) := by
    pointwise [lastOf]
  rw [e, hx]
  refine congrArg (fun z => G z d) (Fin.ext ?_)
  rw [keyAt_last tab h m k h1 h2]
  show 63 * 64 + (k.val - 256) = _
  omega
/-- and the table's blocks, are the rows at the listed positions. -/
theorem table_listed (ht : ∀ i, (tab i).toNat < 64) (m : Fin 60) (k : Fin 512) (h2 : ¬ k.val < 320) (d : Fin 64) :
    tableOf x (tableIdx tab V) (ix5 b h m ⟨k.val - 320, by omega⟩ d) = G (keyAt tab h m k) d := by
  rw [tableOf_at x _ b h m ⟨k.val - 320, by omega⟩ d ⟨(tab (ix3 h m ⟨(k.val - 320) / 64, by omega⟩)).toNat, ht _⟩
    (fun j => tableIdx_head tab V h m j) (tableIdx_block tab V h m _ (ht _)), hx]
  refine congrArg (fun z => G z d) (Fin.ext ?_)
  rw [keyAt_table tab h m k ⟨(k.val - 320) / 64, by omega⟩ h2 rfl (ht _)]
  rfl

/-- The joined values are the rows at the listed positions, -/
theorem listed_values (ht : ∀ i, (tab i).toNat < 64) (m : Fin 60) (k : Fin 512) (d : Fin 64) :
    joinValues (bandOf x) (firstOf x) (lastOf x) (tableOf x (tableIdx tab V)) (ix5 b h m k d) = G (keyAt tab h m k) d := by
  rw [joinValues_at]
  by_cases h0 : k.val < 192
  · rw [dif_pos h0]; exact band_listed x G tab b h hx m k h0 d
  rw [dif_neg h0]
  by_cases h1 : k.val < 256
  · rw [dif_pos h1]; exact first_listed x G tab b h hx m k h0 h1 d
  rw [dif_neg h1]
  by_cases h2 : k.val < 320
  · rw [dif_pos h2]; exact last_listed x G tab b h hx m k h1 h2 d
  · rw [dif_neg h2]; exact table_listed x G tab V b h hx ht m k h2 d

/-- and the joined scores those against them. -/
theorem listed_scores (q : FVec Ideal S2x16x60x64x64 .f32) (ht : ∀ i, (tab i).toNat < 64) (m : Fin 60) (r : Fin 64) (k : Fin 512) :
    joinScores (ownScores q (bandOf x) fun _ => (0 : EReal)) (sharedScores q (firstOf x) fun _ => (0 : EReal))
        (sharedScores q (lastOf x) fun _ => (0 : EReal)) (ownScores q (tableOf x (tableIdx tab V)) fun _ => (0 : EReal)) (ix5 b h m r k)
      = score (fun d => q (ix5 b h m r d)) (G (keyAt tab h m k)) := by
  rw [joinScores_at]
  by_cases h0 : k.val < 192
  · rw [dif_pos h0, ownScores_at]; exact congrArg (score _) (funext fun d => band_listed x G tab b h hx m k h0 d)
  rw [dif_neg h0]
  by_cases h1 : k.val < 256
  · rw [dif_pos h1, sharedScores_at]; exact congrArg (score _) (funext fun d => first_listed x G tab b h hx m k h0 h1 d)
  rw [dif_neg h1]
  by_cases h2 : k.val < 320
  · rw [dif_pos h2, sharedScores_at]; exact congrArg (score _) (funext fun d => last_listed x G tab b h hx m k h1 h2 d)
  · rw [dif_neg h2, ownScores_at]; exact congrArg (score _) (funext fun d => table_listed x G tab V b h hx ht m k h2 d)

end Listed

end Cert.ReferenceIdeal.Hand

end
-- ==== Proof.RefContext.lean ====
/- The reference's context of every block: the middle blocks' scores and values, and the two edges put around them. -/
module

public import proofs.«01_k».proof.Proof.RefMiddle

@[expose] public section

set_option maxRecDepth 16384

noncomputable section

namespace Cert.ReferenceIdeal.Hand

open Idealize.ShloMosaic Idealize.ShloMosaic.TcCoe
open Cert.ReferenceIdeal.Value Cert.ReferenceIdeal.Gen
open Cert.Layer

/-! ## The mask's penalties -/

/-- The band's mask. -/
def bandMask (w : FVec Ideal S2x64x64 .f32) : FVec Ideal S2x60x192 .f32 :=
  concatenate S2x60x192 2 [⟨S2x60x64, extractStridedSlice S2x60x64 ![0, 1, 0] w slices_S2x64x64_S2x60x64_0_1_0⟩, ⟨S2x60x64, extractStridedSlice S2x60x64 ![0, 2, 0] w slices_S2x64x64_S2x60x64_0_2_0⟩, ⟨S2x60x64, extractStridedSlice S2x60x64 ![0, 3, 0] w slices_S2x64x64_S2x60x64_0_3_0⟩] concatenates_S2x60x64_S2x60x64_S2x60x64_S2x60x192_d2

/-- The mask's first 64 entries -/
def firstMask (w : FVec Ideal S2x1x1x4096 .f32) : FVec Ideal S2x1x1x64 .f32 :=
  extractStridedSlice S2x1x1x64 ![0, 0, 0, 0] w slices_S2x1x1x4096_S2x1x1x64_0_0_0_0
/-- and its last. -/
def lastMask (w : FVec Ideal S2x1x1x4096 .f32) : FVec Ideal S2x1x1x64 .f32 :=
  extractStridedSlice S2x1x1x64 ![0, 0, 0, 4032] w slices_S2x1x1x4096_S2x1x1x64_0_0_0_4032

/-- Over the band, from the mask by block: -/
def bandPenalty (w : FVec Ideal S2x64x64 .f32) : FVec Ideal S2x16x60x64x192 .f32 :=
  broadcastInDim S2x16x60x64x192 ![0, 1, 2, 3, 4] bcast_S2x1x60x64x192_S2x16x60x64x192_0_1_2_3_4 (mulf (subf (broadcastInDim S2x1x60x64x192 ![] bcast_S_S2x1x60x64x192 (constant S_ .f32 0x3F800000#32)) (broadcastInDim S2x1x60x64x192 ![0, 2, 3, 4] bcast_S2x60x64x192_S2x1x60x64x192_0_2_3_4 (mulf (broadcastInDim S2x60x64x192 ![0, 1, 2, 3] bcast_S2x60x64x1_S2x60x64x192_0_1_2_3 (broadcastInDim S2x60x64x1 ![0, 1, 2] bcast_S2x60x64_S2x60x64x1_0_1_2 (extractStridedSlice S2x60x64 ![0, 2, 0] w slices_S2x64x64_S2x60x64_0_2_0))) (broadcastInDim S2x60x64x192 ![0, 1, 2, 3] bcast_S2x60x1x192_S2x60x64x192_0_1_2_3 (broadcastInDim S2x60x1x192 ![0, 1, 3] bcast_S2x60x192_S2x60x1x192_0_1_3 (bandMask w)))))) (broadcastInDim S2x1x60x64x192 ![] bcast_S_S2x1x60x64x192 (constant S_ .f32 0xCE6E6B28#32)))

/-- over the first and the last block, from 64 entries of the mask's row: -/
def sharedPenalty (w : FVec Ideal S2x1x1x64 .f32) : FVec Ideal S2x16x60x64x64 .f32 :=
  broadcastInDim S2x16x60x64x64 ![0, 1, 2, 3, 4] bcast_S2x1x1x1x64_S2x16x60x64x64_0_1_2_3_4 (mulf (broadcastInDim S2x1x1x1x64 ![0, 1, 2, 4] bcast_S2x1x1x64_S2x1x1x1x64_0_1_2_4 (subf (broadcastInDim S2x1x1x64 ![] bcast_S_S2x1x1x64 (constant S_ .f32 0x3F800000#32)) w)) (broadcastInDim S2x1x1x1x64 ![] bcast_S_S2x1x1x1x64 (constant S_ .f32 0xCE6E6B28#32)))

/-- and over the table's blocks, from the mask's blocks that the table names. -/
def tablePenalty (w : FVec Ideal S2x64x64 .f32) (idx : IVec S16x60x3x1 32) : FVec Ideal S2x16x60x64x192 .f32 :=
  broadcastInDim S2x16x60x64x192 ![0, 1, 2, 3, 4] bcast_S2x16x60x1x192_S2x16x60x64x192_0_1_2_3_4 (mulf (subf (broadcastInDim S2x16x60x1x192 ![] bcast_S_S2x16x60x1x192 (constant S_ .f32 0x3F800000#32)) (shapeCast _ (Host.gather gather_S2x64x64_S16x60x3x1_S2x16x60x3x64_04_1_n_n_1_3_2164 w idx) shapeCasts_S2x16x60x3x64_S2x16x60x1x192)) (broadcastInDim S2x16x60x1x192 ![] bcast_S_S2x16x60x1x192 (constant S_ .f32 0xCE6E6B28#32)))

/-- Of a mask that is one everywhere the band's mask is one, -/
theorem bandMask_one : bandMask (fun _ => (1 : EReal)) = fun _ => (1 : EReal) := by
  funext i
  idx_vars i
  pointwise [bandMask]
  simp only [dite_eq_ite, ite_self]
/-- its first entries are -/
theorem firstMask_one : firstMask (fun _ => (1 : EReal)) = fun _ => (1 : EReal) := rfl
/-- and its last. -/
theorem lastMask_one : lastMask (fun _ => (1 : EReal)) = fun _ => (1 : EReal) := rfl

/-- So its penalties are zero: over the band, -/
theorem bandPenalty_zero : bandPenalty (fun _ => (1 : EReal)) = fun _ => (0 : EReal) := by
  unfold bandPenalty
  rw [bandMask_one]
  funext i
  refine Eq.trans ?_ no_penalty
  exact congrArg (fun z : EReal => (Ideal.ofBits .f32 0x3F800000#32 - z) * Ideal.ofBits .f32 0xCE6E6B28#32) (one_mul (1 : EReal))
/-- the shared blocks -/
theorem sharedPenalty_zero : sharedPenalty (fun _ => (1 : EReal)) = fun _ => (0 : EReal) := by
  funext i
  exact no_penalty
/-- and the table's. -/
theorem tablePenalty_zero (idx : IVec S16x60x3x1 32) : tablePenalty (fun _ => (1 : EReal)) idx = fun _ => (0 : EReal) := by
  funext i
  exact no_penalty

variable (V : Valuation τ sig (Elt Ideal))

/-- The middle scores, -/
theorem scores_eq : res_main_v151 (F := Ideal) V = joinScores
    (ownScores (res_main_v56 (F := Ideal) V) (bandOf (res_main_v25 (F := Ideal) V)) (bandPenalty (res_main_v1 (F := Ideal) V)))
    (sharedScores (res_main_v56 (F := Ideal) V) (firstOf (res_main_v25 (F := Ideal) V))
      (sharedPenalty (firstMask (res_main_v14 (F := Ideal) V))))
    (sharedScores (res_main_v56 (F := Ideal) V) (lastOf (res_main_v25 (F := Ideal) V))
      (sharedPenalty (lastMask (res_main_v14 (F := Ideal) V))))
    (ownScores (res_main_v56 (F := Ideal) V)
      (tableOf (res_main_v25 (F := Ideal) V) (tableIdx (V (Proc.devRef .tc main_arg9)) V))
      (tablePenalty (res_main_v1 (F := Ideal) V) (broadcastInDim S16x60x3x1 ![0, 1, 2] bcast_S16x60x3_S16x60x3x1_0_1_2 (select (cmpi .slt (V (Proc.devRef .tc main_arg9)) (broadcastInDim S16x60x3 ![] bcast_S_S16x60x3 (constantI S_ 32 0#32))) (addi (V (Proc.devRef .tc main_arg9)) (broadcastInDim S16x60x3 ![] bcast_S_S16x60x3 (constantI S_ 32 64#32))) (V (Proc.devRef .tc main_arg9)))))) := rfl

/-- their exponentials -/
theorem exps_eq : res_main_v158 (F := Ideal) V = midExp (res_main_v151 (F := Ideal) V) := rfl

/-- The middle blocks' context. -/
def middle : FVec Ideal S2x16x60x64x64 .f32 :=
  midMix (res_main_v158 (F := Ideal) V) (joinValues (bandOf (res_main_v26 (F := Ideal) V)) (firstOf (res_main_v26 (F := Ideal) V))
    (lastOf (res_main_v26 (F := Ideal) V)) (tableOf (res_main_v26 (F := Ideal) V) (tableIdx (V (Proc.devRef .tc main_arg9)) V)))

/-- Two edge blocks before the middle blocks and two after. -/
def around (e : FVec Ideal S2x16x4x64x64 .f32) (x : FVec Ideal S2x16x60x64x64 .f32) : FVec Ideal S2x16x64x64x64 .f32 :=
  concatenate S2x16x64x64x64 2 [⟨S2x16x1x64x64, extractStridedSlice S2x16x1x64x64 ![0, 0, 0, 0, 0] e slices_S2x16x4x64x64_S2x16x1x64x64_0_0_0_0_0⟩,
    ⟨S2x16x1x64x64, extractStridedSlice S2x16x1x64x64 ![0, 0, 1, 0, 0] e slices_S2x16x4x64x64_S2x16x1x64x64_0_0_1_0_0⟩,
    ⟨S2x16x60x64x64, x⟩,
    ⟨S2x16x1x64x64, extractStridedSlice S2x16x1x64x64 ![0, 0, 2, 0, 0] e slices_S2x16x4x64x64_S2x16x1x64x64_0_0_2_0_0⟩,
    ⟨S2x16x1x64x64, extractStridedSlice S2x16x1x64x64 ![0, 0, 3, 0, 0] e slices_S2x16x4x64x64_S2x16x1x64x64_0_0_3_0_0⟩]
    concatenates_S2x16x1x64x64_S2x16x1x64x64_S2x16x60x64x64_S2x16x1x64x64_S2x16x1x64x64_S2x16x64x64x64_d2

/-- The context by block. -/
theorem context_eq : res_main_v173 (F := Ideal) V = around (res_main_v55 (F := Ideal) V) (middle V) := rfl

/-- The middle queries by block. -/
theorem midQuery_at (b : Fin 2) (h : Fin 16) (m : Fin 60) (r d : Fin 64) :
    (res_main_v56 (F := Ideal) V) (ix5 b h m r d)
      = head (V (Proc.devRef .tc main_arg0)) (V (Proc.devRef .tc main_arg2)) b h (row ⟨m.val + 2, by omega⟩ r) d := by
  rw [← query_at]
  pointwise [res_main_v56]
  exact congrArg (fun n => (res_main_v24 (F := Ideal) V) (ix5 b h n r d)) (Fin.ext (by simp only; omega))

/-- A block of the context: an edge block's or a middle one's. -/
theorem around_at (e : FVec Ideal S2x16x4x64x64 .f32) (x : FVec Ideal S2x16x60x64x64 .f32) (b : Fin 2) (h : Fin 16) (n r d : Fin 64) :
    around e x (ix5 b h n r d) = if h0 : 2 ≤ n.val ∧ n.val < 62 then x (ix5 b h ⟨n.val - 2, by omega⟩ r d)
      else e (ix5 b h (if n.val < 2 then ⟨n.val % 2, by omega⟩ else ⟨2 + n.val % 2, by omega⟩) r d) := by
  pointwise [around]
  by_cases hm : 2 ≤ n.val ∧ n.val < 62
  · rw [dif_neg (by omega), dif_neg (by omega), dif_pos (by omega), dif_pos hm]
    exact congrArg (fun z => x (ix5 b h z r d)) (Fin.ext (by simp only; omega))
  rw [dif_neg hm]
  by_cases h1 : n.val < 2
  · rw [if_pos h1]
    by_cases h0 : n.val < 1
    · rw [dif_pos h0]
      exact congrArg (fun z => e (ix5 b h z r d)) (Fin.ext (by simp only; omega))
    · rw [dif_neg h0, dif_pos (by omega)]
      exact congrArg (fun z => e (ix5 b h z r d)) (Fin.ext (by simp only; omega))
  · rw [if_neg h1, dif_neg (by omega), dif_neg (by omega), dif_neg (by omega)]
    by_cases h0 : n.val < 63
    · rw [dif_pos (by omega)]
      exact congrArg (fun z => e (ix5 b h z r d)) (Fin.ext (by simp only; omega))
    · rw [dif_neg (by omega)]
      exact congrArg (fun z => e (ix5 b h z r d)) (Fin.ext (by simp only; omega))

variable (hmask : ∀ i : S2x4096.Idx, (V (Proc.devRef .tc main_arg1) : Vec Ideal S2x4096 .i1) i = 1#1)
include hmask

/-- With an all-true mask the middle scores have no penalties. -/
theorem scores_plain : res_main_v151 (F := Ideal) V = joinScores
    (ownScores (res_main_v56 (F := Ideal) V) (bandOf (res_main_v25 (F := Ideal) V)) fun _ => (0 : EReal))
    (sharedScores (res_main_v56 (F := Ideal) V) (firstOf (res_main_v25 (F := Ideal) V)) fun _ => (0 : EReal))
    (sharedScores (res_main_v56 (F := Ideal) V) (lastOf (res_main_v25 (F := Ideal) V)) fun _ => (0 : EReal))
    (ownScores (res_main_v56 (F := Ideal) V)
      (tableOf (res_main_v25 (F := Ideal) V) (tableIdx (V (Proc.devRef .tc main_arg9)) V)) fun _ => (0 : EReal)) := by
  have p0 : bandPenalty (res_main_v1 (F := Ideal) V) = fun _ => (0 : EReal) :=
    (congrArg bandPenalty (mask_blocks V hmask)).trans bandPenalty_zero
  have p1 : sharedPenalty (firstMask (res_main_v14 (F := Ideal) V)) = fun _ => (0 : EReal) :=
    (congrArg sharedPenalty ((congrArg firstMask (mask_row V hmask)).trans firstMask_one)).trans sharedPenalty_zero
  have p2 : sharedPenalty (lastMask (res_main_v14 (F := Ideal) V)) = fun _ => (0 : EReal) :=
    (congrArg sharedPenalty ((congrArg lastMask (mask_row V hmask)).trans lastMask_one)).trans sharedPenalty_zero
  have p3 (idx : IVec S16x60x3x1 32) : tablePenalty (res_main_v1 (F := Ideal) V) idx = fun _ => (0 : EReal) :=
    (congrArg (fun w => tablePenalty w idx) (mask_blocks V hmask)).trans (tablePenalty_zero idx)
  rw [scores_eq, p0, p1, p2, p3]

/-- The middle blocks' context: each query attends to its listed keys. -/
theorem middle_at (ht : ∀ i : S16x60x3.Idx, ((V (Proc.devRef .tc main_arg9) : IVec S16x60x3 32) i).toNat < 64)
    (b : Fin 2) (h : Fin 16) (m : Fin 60) (r d : Fin 64) :
    middle V (ix5 b h m r d)
      = attend (fun k : Fin 512 => score (head (V (Proc.devRef .tc main_arg0)) (V (Proc.devRef .tc main_arg2)) b h (row ⟨m.val + 2, by omega⟩ r))
            (head (V (Proc.devRef .tc main_arg0)) (V (Proc.devRef .tc main_arg3)) b h (keyAt (V (Proc.devRef .tc main_arg9)) h m k)))
          fun k => head (V (Proc.devRef .tc main_arg0)) (V (Proc.devRef .tc main_arg4)) b h (keyAt (V (Proc.devRef .tc main_arg9)) h m k) d := by
  have hs : ∀ k : Fin 512, (res_main_v151 (F := Ideal) V) (ix5 b h m r k)
      = score (head (V (Proc.devRef .tc main_arg0)) (V (Proc.devRef .tc main_arg2)) b h (row ⟨m.val + 2, by omega⟩ r))
          (head (V (Proc.devRef .tc main_arg0)) (V (Proc.devRef .tc main_arg3)) b h (keyAt (V (Proc.devRef .tc main_arg9)) h m k)) := fun k => by
    rw [scores_plain V hmask]
    refine (listed_scores (res_main_v25 (F := Ideal) V) _ (V (Proc.devRef .tc main_arg9)) V b h (keyBlock_at V b h)
      (res_main_v56 (F := Ideal) V) ht m r k).trans ?_
    exact congrArg (fun q => score q _) (funext fun d => midQuery_at V b h m r d)
  have hv : ∀ k : Fin 512, _ = _ := fun k =>
    listed_values (res_main_v26 (F := Ideal) V) _ (V (Proc.devRef .tc main_arg9)) V b h (valueBlock_at V b h) ht m k d
  unfold middle
  rw [midMix_at]
  unfold attend
  simp only [exps_eq, midExp_at, hs, hv]

omit hmask in
/-- The place of an edge block in the list. -/
theorem edgeBlock_of : ∀ n : Fin 64, ¬ (2 ≤ n.val ∧ n.val < 62) →
    edgeBlock (if n.val < 2 then ⟨n.val % 2, by omega⟩ else ⟨2 + n.val % 2, by omega⟩) = n := by decide

/-- Row `r` of block `n` of the context. -/
theorem context_at (ht : ∀ i : S16x60x3.Idx, ((V (Proc.devRef .tc main_arg9) : IVec S16x60x3 32) i).toNat < 64)
    (b : Fin 2) (h : Fin 16) (n r d : Fin 64) :
    (res_main_v173 (F := Ideal) V) (ix5 b h n r d)
      = context (head (V (Proc.devRef .tc main_arg0)) (V (Proc.devRef .tc main_arg2))) (head (V (Proc.devRef .tc main_arg0)) (V (Proc.devRef .tc main_arg3)))
          (head (V (Proc.devRef .tc main_arg0)) (V (Proc.devRef .tc main_arg4))) (V (Proc.devRef .tc main_arg9)) b h (row n r) d := by
  have hr : (row n r).val = n.val * 64 + r.val := rfl
  rw [context_eq, around_at]
  unfold context
  by_cases hm : 2 ≤ n.val ∧ n.val < 62
  · rw [dif_pos hm, dif_pos (by omega), middle_at V hmask ht]
    have e1 : row ⟨n.val - 2 + 2, by omega⟩ r = row n r := Fin.ext (by show (n.val - 2 + 2) * 64 + r.val = n.val * 64 + r.val; omega)
    have e2 : (⟨n.val - 2, by omega⟩ : Fin 60) = ⟨((row n r).val - 128) / 64, by omega⟩ := Fin.ext (by show n.val - 2 = (n.val * 64 + r.val - 128) / 64; omega)
    rw [e1, e2]
  · rw [dif_neg hm, dif_neg (by omega), edge_at V hmask]
    have e : row (edgeBlock (if n.val < 2 then ⟨n.val % 2, by omega⟩ else ⟨2 + n.val % 2, by omega⟩)) r = row n r := by
      exact congrArg (fun z => row z r) (edgeBlock_of n hm)
    rw [e]

end Cert.ReferenceIdeal.Hand

end
-- ==== Proof.RefValue.lean ====
/- The reference's result: the output projection with bias and residual, and its layer norm. -/
module

public import proofs.«01_k».proof.Proof.RefContext

@[expose] public section

set_option maxRecDepth 16384

noncomputable section

namespace Cert.ReferenceIdeal.Hand

open Idealize.ShloMosaic Idealize.ShloMosaic.TcCoe
open Cert.ReferenceIdeal.Value Cert.ReferenceIdeal.Gen
open Cert.Layer

/-! ## The output projection -/

/-- The heads' context side by side, times the mask. -/
def besides (x : FVec Ideal S2x16x64x64x64 .f32) (w : FVec Ideal S2x4096 .f32) : FVec Ideal S2x4096x1024 .f32 :=
  shapeCast _ (transpose S2x4096x16x64 [0, 2, 1, 3] (mulf (shapeCast _ x shapeCasts_S2x16x64x64x64_S2x16x4096x64) (broadcastInDim S2x16x4096x64 ![0, 1, 2, 3] bcast_S2x1x4096x1_S2x16x4096x64_0_1_2_3 (shapeCast _ w shapeCasts_S2x4096_S2x1x4096x1))) transposes_S2x16x4096x64_S2x4096x16x64_0_2_1_3) shapeCasts_S2x4096x16x64_S2x4096x1024

/-- The projection of such rows, with bias and residual. -/
def projected (y : FVec Ideal S2x4096x1024 .f32) (W : FVec Ideal S1024x1024 .f32) (bo : FVec Ideal S1024 .f32) (X : FVec Ideal S2x4096x1024 .f32) :
    FVec Ideal S2x4096x1024 .f32 :=
  addf (addf (Host.dotGeneral dot_S2x4096x1024_S1024x1024_S2x4096x1024_2_0_01_1_n_n none y W) (broadcastInDim S2x4096x1024 ![0, 1, 2] bcast_S1x1x1024_S2x4096x1024_0_1_2 (broadcastInDim S1x1x1024 ![2] bcast_S1024_S1x1x1024_2 bo))) X

/-- Column `j` of the heads side by side is column `j % 64` of head `j / 64`, -/
theorem besides_at (x : FVec Ideal S2x16x64x64x64 .f32) (b : Fin 2) (s : Fin 4096) (j : Fin 1024) :
    besides x (fun _ => (1 : EReal)) (ix3 b s j)
      = x (ix5 b ⟨j.val / 64, by omega⟩ ⟨s.val / 64, by omega⟩ ⟨s.val % 64, by omega⟩ ⟨j.val % 64, by omega⟩) := by
  pointwise [besides]
/-- and a projected entry is a sum over these with bias and residual. -/
theorem projected_at (y : FVec Ideal S2x4096x1024 .f32) (W : FVec Ideal S1024x1024 .f32) (bo : FVec Ideal S1024 .f32)
    (X : FVec Ideal S2x4096x1024 .f32) (b : Fin 2) (s : Fin 4096) (n : Fin 1024) :
    projected y W bo X (ix3 b s n) = (∑ j : Fin 1024, y (ix3 b s j) * W (ix2 j n)) + bo (Idealize.ShloMosaic.ix1 n) + X (ix3 b s n) := by
  pointwise [projected]

/-! ## The layer norm -/

/-- An array less its rows' means. -/
def centred (x : FVec Ideal S2x4096x1024 .f32) : FVec Ideal S2x4096x1024 .f32 :=
  subf x (broadcastInDim S2x4096x1024 ![0, 1, 2] bcast_S2x4096x1_S2x4096x1024_0_1_2 (Host.divf (broadcastInDim S2x4096x1 ![0, 1] bcast_S2x4096_S2x4096x1_0_1 (Host.reduceAdd x (constant S_ .f32 0x00000000#32) reducesTo_S2x4096x1024_S2x4096_d2 h_S_)) (broadcastInDim S2x4096x1 ![] bcast_S_S2x4096x1 (constant S_ .f32 0x44800000#32))))

/-- The number that the variance is divided by: 1024, less the correction zero. -/
def count : FVec Ideal S_ .f32 := subf (constant S_ .f32 0x44800000#32) (sitofp .f32 (constantI S_ 32 0#32))

/-- The rows' sums of squares over it, -/
def squares (d : FVec Ideal S2x4096x1024 .f32) (k : FVec Ideal S_ .f32) : FVec Ideal S2x4096x1 .f32 :=
  Host.divf (broadcastInDim S2x4096x1 ![0, 1] bcast_S2x4096_S2x4096x1_0_1 (Host.reduceAdd (mulf d d) (constant S_ .f32 0x00000000#32) reducesTo_S2x4096x1024_S2x4096_d2 h_S_)) (broadcastInDim S2x4096x1 ![] bcast_S_S2x4096x1 k)

/-- kept where the number is positive. -/
def guarded (k : FVec Ideal S_ .f32) (v : FVec Ideal S2x4096x1 .f32) : FVec Ideal S2x4096x1 .f32 :=
  select (broadcastInDim S2x4096x1 ![] bcast_S_S2x4096x1 (cmpf .ogt k (constant S_ .f32 0x00000000#32))) v (broadcastInDim S2x4096x1 ![] bcast_S_S2x4096x1 (id (constant S_ .f32 0x7FC00000#32)))

/-- The scaled differences over the root of the variance, with the shift. -/
def scaled (d : FVec Ideal S2x4096x1024 .f32) (v : FVec Ideal S2x4096x1 .f32) (g be : FVec Ideal S1024 .f32) : FVec Ideal S2x4096x1024 .f32 :=
  addf (Host.divf (mulf (broadcastInDim S2x4096x1024 ![0, 1, 2] bcast_S1x1x1024_S2x4096x1024_0_1_2 (broadcastInDim S1x1x1024 ![2] bcast_S1024_S1x1x1024_2 g)) d) (broadcastInDim S2x4096x1024 ![0, 1, 2] bcast_S2x4096x1_S2x4096x1024_0_1_2 (Host.sqrt (addf v (broadcastInDim S2x4096x1 ![] bcast_S_S2x4096x1 (constant S_ .f32 0x2B8CBCCC#32)))))) (broadcastInDim S2x4096x1024 ![0, 1, 2] bcast_S1x1x1024_S2x4096x1024_0_1_2 (broadcastInDim S1x1x1024 ![2] bcast_S1024_S1x1x1024_2 be))

/-- The differences from the mean, -/
theorem centred_at (x : FVec Ideal S2x4096x1024 .f32) (b : Fin 2) (s : Fin 4096) (n : Fin 1024) :
    centred x (ix3 b s n) = x (ix3 b s n) - mean fun l => x (ix3 b s l) := by
  pointwise [centred, mean]
/-- the sums of squares, -/
theorem squares_at (d : FVec Ideal S2x4096x1024 .f32) (k : FVec Ideal S_ .f32) (b : Fin 2) (s : Fin 4096) :
    squares d k (ix3 b s 0) = Ideal.div (∑ l, d (ix3 b s l) * d (ix3 b s l)) (k ix0) := by
  pointwise [squares]
/-- and the norm. -/
theorem scaled_at (d : FVec Ideal S2x4096x1024 .f32) (v : FVec Ideal S2x4096x1 .f32) (g be : FVec Ideal S1024 .f32) (b : Fin 2) (s : Fin 4096)
    (n : Fin 1024) :
    scaled d v g be (ix3 b s n) = Ideal.div (g (Idealize.ShloMosaic.ix1 n) * d (ix3 b s n)) (Ideal.sqrt (v (ix3 b s 0) + Ideal.ofBits .f32 0x2B8CBCCC#32))
      + be (Idealize.ShloMosaic.ix1 n) := by
  pointwise [scaled]

/-- The number is 1024, -/
theorem count_at (i : S_.Idx) : count i = Ideal.ofBits .f32 0x44800000#32 := by
  show Ideal.ofBits .f32 0x44800000#32 - (((0#32 : BitVec 32).toInt : ℝ) : EReal) = _
  simp
/-- which is positive. -/
theorem guarded_at (v : FVec Ideal S2x4096x1 .f32) (b : Fin 2) (s : Fin 4096) : guarded count v (ix3 b s 0) = v (ix3 b s 0) := by
  pointwise [guarded]
  rw [count_at, word1024, if_pos (by exact_mod_cast (by norm_num : (0 : ℝ) < 1024))]

/-- The norm of an array's row. -/
theorem norm_at (x : FVec Ideal S2x4096x1024 .f32) (g be : FVec Ideal S1024 .f32) (b : Fin 2) (s : Fin 4096) (n : Fin 1024) :
    scaled (centred x) (guarded count (squares (centred x) count)) g be (ix3 b s n) = Layer.norm (fun l => x (ix3 b s l)) g be n := by
  rw [scaled_at, guarded_at, squares_at, count_at]
  simp only [centred_at]
  rfl

/-! ## The layer -/

variable (V : Valuation τ sig (Elt Ideal))

/-- The array that the norm is taken of. -/
theorem rows_eq : res_main_v183 (F := Ideal) V = projected (besides (res_main_v173 (F := Ideal) V) (res_main_v0 (F := Ideal) V))
    (V (Proc.devRef .tc main_arg5)) (V (Proc.devRef .tc main_arg6)) (V (Proc.devRef .tc main_arg0)) := rfl

/-- The reference's result, of the array that the norm is taken of. -/
def outcome : FVec Ideal S2x4096x1024 .f32 :=
  scaled (centred (res_main_v183 (F := Ideal) V)) (guarded count (squares (centred (res_main_v183 (F := Ideal) V)) count))
    (V (Proc.devRef .tc main_arg7)) (V (Proc.devRef .tc main_arg8))

variable (hmask : ∀ i : S2x4096.Idx, (V (Proc.devRef .tc main_arg1) : Vec Ideal S2x4096 .i1) i = 1#1)
include hmask

/-- The reference computes the layer. -/
theorem outcome_at (ht : ∀ i : S16x60x3.Idx, ((V (Proc.devRef .tc main_arg9) : IVec S16x60x3 32) i).toNat < 64)
    (b : Fin 2) (s : Fin 4096) (n : Fin 1024) :
    outcome V (ix3 b s n)
      = layer (V (Proc.devRef .tc main_arg0)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8))
          (V (Proc.devRef .tc main_arg9)) b s n := by
  have hb : besides (res_main_v173 (F := Ideal) V) (res_main_v0 (F := Ideal) V)
      = besides (res_main_v173 (F := Ideal) V) fun _ => (1 : EReal) := congrArg (besides _) (mask_one V hmask)
  have hrow : ∀ l : Fin 1024, (res_main_v183 (F := Ideal) V) (ix3 b s l)
      = outRow (context (head (V (Proc.devRef .tc main_arg0)) (V (Proc.devRef .tc main_arg2))) (head (V (Proc.devRef .tc main_arg0)) (V (Proc.devRef .tc main_arg3)))
          (head (V (Proc.devRef .tc main_arg0)) (V (Proc.devRef .tc main_arg4))) (V (Proc.devRef .tc main_arg9)))
          (V (Proc.devRef .tc main_arg5)) (V (Proc.devRef .tc main_arg6)) (V (Proc.devRef .tc main_arg0)) b s l := fun l => by
    rw [rows_eq, hb, projected_at]
    unfold outRow
    have es : row ⟨s.val / 64, by omega⟩ ⟨s.val % 64, by omega⟩ = s :=
      Fin.ext (by show s.val / 64 * 64 + s.val % 64 = s.val; omega)
    simp only [besides_at, context_at V hmask ht, es]
  unfold outcome layer
  rw [norm_at]
  exact congrArg (fun x => Layer.norm x _ _ n) (funext hrow)

end Cert.ReferenceIdeal.Hand

end
-- ==== Proof.Algebraic.lean ====
/- The equation: from equal arguments the kernel and the reference end with the same array, namely the layer's. -/
module

public import proofs.«01_k».proof.Proof.Frames
public import proofs.«01_k».proof.Proof.KernelValue
public import proofs.«01_k».proof.Proof.RefValue

@[expose] public section

set_option maxRecDepth 16384

noncomputable section

namespace Cert.Algebraic

open Idealize.ShloMosaic Idealize.ShloMosaic.TcCoe Idealize.ShloMosaic.StableHlo Idealize.SL.Sem
open Cert.Layer

attribute [local instance] Cert.Kernel.Gen.facts Cert.KernelIdeal.Gen.facts Cert.ReferenceIdeal.Gen.facts Cert.Pre_pre.Gen.facts

/-- Equal arguments give equal layers. -/
theorem layer_congr {X X' : FVec Ideal Tok .f32} {Wq Wq' Wk Wk' Wv Wv' Wo Wo' : FVec Ideal Mat .f32} {bo bo' g g' be be' : FVec Ideal Row .f32}
    {tab tab' : IVec Tab 32} (hX : X = X') (hq : Wq = Wq') (hk : Wk = Wk') (hv : Wv = Wv') (ho : Wo = Wo') (hbo : bo = bo') (hg : g = g')
    (hbe : be = be') (ht : tab = tab') (b : Fin 2) (s : Fin 4096) (n : Fin 1024) :
    layer X Wq Wk Wv Wo bo g be tab b s n = layer X' Wq' Wk' Wv' Wo' bo' g' be' tab' b s n := by
  subst hX hq hk hv ho hbo hg hbe ht; rfl

/-- The reference's result is the kernel's, on each device. -/
theorem same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal m) (hw : Cert.KernelIdeal.Hand.Words m) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    (Cert.ReferenceIdeal.Hand.outcome (launchContents m' c) : FVec Ideal Tok .f32)
      = (Cert.KernelIdeal.Hand.B7 m hw c (Proc.devRef .tc Cert.KernelIdeal.main_v21) : FVec Ideal Tok .f32) := by
  have hmask : ∀ i : Cert.ReferenceIdeal.S2x4096.Idx,
      ((launchContents m' c) (Proc.devRef .tc Cert.ReferenceIdeal.main_arg1) : Vec Ideal Cert.ReferenceIdeal.S2x4096 .i1) i = 1#1 := fun i =>
    (congrFun h1 i).trans (Cert.Domain.mask_set _ _ _ _ _ _ _ _ _ _ (hp c) i)
  have htab : ∀ i : Cert.ReferenceIdeal.S16x60x3.Idx,
      (((launchContents m' c) (Proc.devRef .tc Cert.ReferenceIdeal.main_arg9) : IVec Cert.ReferenceIdeal.S16x60x3 32) i).toNat < 64 := fun i =>
    (congrArg BitVec.toNat (congrFun h9 i)).trans_lt (Cert.Domain.table_lt _ _ _ _ _ _ _ _ _ _ (hp c) i)
  funext y
  idx_vars y
  refine (Cert.ReferenceIdeal.Hand.outcome_at (launchContents m' c) hmask htab _ _ _).trans ?_
  refine Eq.trans ?_ (Cert.KernelIdeal.Hand.result m hw c _ _ _).symm
  exact layer_congr h0 h2 h3 h4 h5 h6 h7 h8 h9 _ _ _

/-- The algebraic claim: the two runs end with one array, the layer's. -/
theorem claim : Cert.algebraic_KernelIdeal_ReferenceIdeal := by
  intro m g m' g' hp hargs
  have hw := Cert.Frames.words_ideal m hp
  refine ⟨fun c => Cert.KernelIdeal.Hand.B7 m hw c (Proc.devRef .tc Cert.KernelIdeal.main_v21), ?_, ?_⟩
  · refine (θ_run Cert.KernelIdeal.defs _ _).mono (fun r h c => ?_) (Cert.KernelIdeal.Hand.runs m g hw)
    exact ⟨h.1 c _ (Cert.KernelIdeal.Hand.mem_uc Cert.KernelIdeal.main_v21 (by decide)), Cert.KernelIdeal.Hand.args_kept m hw c r.2.mem (h.1 c)⟩
  · refine (θ_run Cert.ReferenceIdeal.defs _ _).mono (fun r h c => ⟨?_, (h c).2⟩) (Cert.ReferenceIdeal.Value.run (F := Ideal) m' g')
    obtain ⟨h0, h1, h2, h3, h4, h5, h6, h7, h8, h9⟩ := hargs c
    exact (h c).1.trans (same m m' hp hw c h0 h1 h2 h3 h4 h5 h6 h7 h8 h9)

end Cert.Algebraic

end
-- ==== Proof.lean ====
module

public import proofs.«01_k».proof.Defs
public import proofs.«01_k».proof.Proof.Frames
public import proofs.«01_k».proof.Proof.Algebraic

@[expose] public section

noncomputable section

namespace Cert.Proof

/-- The claims, under the shape facts that the generated modules prove. -/
theorem claim : Cert.Claim :=
  ⟨Cert.Kernel.Gen.facts, Cert.KernelIdeal.Gen.facts, Cert.ReferenceIdeal.Gen.facts, Cert.Pre_pre.Gen.facts,
    Cert.Frames.kernel, Cert.Frames.kernelIdeal, Cert.Frames.reference, trivial, Cert.Algebraic.claim⟩

end Cert.Proof

end
